-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_score_of_a_finite_bank [hKernelIdeal : Cert.KernelIdeal.Facts] [hReferenceIdeal : Cert.ReferenceIdeal.Facts] [hOn_score_of_a_finite_bank : Cert.On_score_of_a_finite_bank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 1, 224, 224]⟩ : Shape).Idx, (Cert.On_score_of_a_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v43) i = v0 c i)
          ∧ (∀ i : (⟨0, ![]⟩ : Shape).Idx, (Cert.On_score_of_a_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v44) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 1, 224, 224]⟩ : Shape).Idx, (Cert.On_score_of_a_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v435) i = v0 c i)
          ∧ (∀ i : (⟨0, ![]⟩ : Shape).Idx, (Cert.On_score_of_a_finite_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v456) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_score_of_a_finite_bank : Cert.On_score_of_a_finite_bank.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_score_of_a_finite_bank (hKernelIdeal := hKernelIdeal) (hReferenceIdeal := hReferenceIdeal) (hOn_score_of_a_finite_bank := hOn_score_of_a_finite_bank)
-- ==== On_score_of_a_finite_bank.lean ====
abbrev S3136x384 : Shape := ⟨2, ![3136, 384]⟩
abbrev S50000x384 : Shape := ⟨2, ![50000, 384]⟩
abbrev S_ : Shape := ⟨0, ![]⟩
abbrev S4x1x224x224 : Shape := ⟨4, ![4, 1, 224, 224]⟩

class Facts : Prop where
  bcast_S_S4x1x224x224 : S_.BroadcastsInDim S4x1x224x224 (![] : Fin 0 → Fin S4x1x224x224.rank)
  bcast_S_S50000x384 : S_.BroadcastsInDim S50000x384 (![] : Fin 0 → Fin S50000x384.rank)
  reducesTo_S50000x384_S_d0_1 : S50000x384.ReducesTo [0, 1] S_
  h_S_ : 0 < S_.numel

variable [Facts]

def fn {F : FTy → Type} [FloatOps F] (main_arg0 : FVec F S3136x384 .f32) (main_arg1 : FVec F S50000x384 .f32) : IVec S4x1x224x224 1 × IVec S_ 1 :=
  let main_c : IVec S_ 1 := constantI S_ 1 1#1
  let main_v0 : IVec S4x1x224x224 1 := broadcastInDim S4x1x224x224 ![] bcast_S_S4x1x224x224 main_c
  let main_v1 : FVec F S50000x384 .f32 := Host.absf main_arg1
  let main_cst : FVec F S_ .f32 := constant S_ .f32 0x7F800000#32
  let main_v2 : FVec F S50000x384 .f32 := broadcastInDim S50000x384 ![] bcast_S_S50000x384 main_cst
  let main_v3 : IVec S50000x384 1 := cmpf .olt main_v1 main_v2
  let main_c_0 : IVec S_ 1 := constantI S_ 1 1#1
  let main_v4 : IVec S_ 1 := (fun x v => Host.reduce IntOp.andi x v reducesTo_S50000x384_S_d0_1 h_S_) main_v3 main_c_0
  (main_v0, main_v4)
-- ==== Kernel.lean ====
abbrev S3136x384 : Shape := ⟨2, ![3136, 384]⟩
abbrev S50000x384 : Shape := ⟨2, ![50000, 384]⟩
abbrev S1x3136 : Shape := ⟨2, ![1, 3136]⟩
abbrev S2000x384 : Shape := ⟨2, ![2000, 384]⟩
abbrev S1x384 : Shape := ⟨2, ![1, 384]⟩
abbrev S2000 : Shape := ⟨1, ![2000]⟩
abbrev S2000x1 : Shape := ⟨2, ![2000, 1]⟩
abbrev S2000x3136 : Shape := ⟨2, ![2000, 3136]⟩
abbrev S3136 : Shape := ⟨1, ![3136]⟩
abbrev S_ : Shape := ⟨0, ![]⟩
abbrev S1x2 : Shape := ⟨2, ![1, 2]⟩
abbrev S1x386 : Shape := ⟨2, ![1, 386]⟩
abbrev S1x1 : Shape := ⟨2, ![1, 1]⟩
abbrev S8192x384 : Shape := ⟨2, ![8192, 384]⟩
abbrev S1x57344 : Shape := ⟨2, ![1, 57344]⟩
abbrev S8192 : Shape := ⟨1, ![8192]⟩
abbrev S8192x1 : Shape := ⟨2, ![8192, 1]⟩
abbrev S8192x386 : Shape := ⟨2, ![8192, 386]⟩
abbrev S1x8192 : Shape := ⟨2, ![1, 8192]⟩
abbrev S1 : Shape := ⟨1, ![1]⟩
abbrev S4x28x28 : Shape := ⟨3, ![4, 28, 28]⟩
abbrev S33 : Shape := ⟨1, ![33]⟩
abbrev S33x224x28 : Shape := ⟨3, ![33, 224, 28]⟩
abbrev S33x1x1 : Shape := ⟨3, ![33, 1, 1]⟩
abbrev S224x28 : Shape := ⟨2, ![224, 28]⟩
abbrev S4x1x224x224 : Shape := ⟨4, ![4, 1, 224, 224]⟩
abbrev S1x28x28 : Shape := ⟨3, ![1, 28, 28]⟩
abbrev S1x1x224x224 : Shape := ⟨4, ![1, 1, 224, 224]⟩
abbrev S28x28 : Shape := ⟨2, ![28, 28]⟩
abbrev S224x224 : Shape := ⟨2, ![224, 224]⟩

abbrev nBuf : Space → Nat
  | .hbm => 68
  | .vmem => 16
  | .smem => 0
  | _ => 0

abbrev bufTy : (tb : Table) → Fin (tcTables nBuf tb) → BufTy
  | .hbm, ⟨0, _⟩ => ⟨S3136x384, .f32⟩
  | .hbm, ⟨1, _⟩ => ⟨S50000x384, .f32⟩
  | .hbm, ⟨2, _⟩ => ⟨S1x3136, .f32⟩
  | .hbm, ⟨3, _⟩ => ⟨S3136, .f32⟩
  | .hbm, ⟨4, _⟩ => ⟨S3136, .i32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1x384, .f32⟩
  | .hbm, ⟨16, _⟩ => ⟨S_, .f32⟩
  | .hbm, ⟨17, _⟩ => ⟨S1x2, .f32⟩
  | .hbm, ⟨18, _⟩ => ⟨S1x386, .f32⟩
  | .hbm, ⟨19, _⟩ => ⟨S1x1, .f32⟩
  | .hbm, ⟨20, _⟩ => ⟨S4x28x28, .f32⟩
  | .hbm, ⟨21, _⟩ => ⟨S33, .f32⟩
  | .hbm, ⟨22, _⟩ => ⟨S_, .f32⟩
  | .hbm, ⟨23, _⟩ => ⟨S33, .f32⟩
  | .hbm, ⟨24, _⟩ => ⟨S33, .f32⟩
  | .hbm, ⟨25, _⟩ => ⟨S33, .f32⟩
  | .hbm, ⟨26, _⟩ => ⟨S33, .f32⟩
  | .hbm, ⟨27, _⟩ => ⟨S_, .f32⟩
  | .hbm, ⟨28, _⟩ => ⟨S33, .f32⟩
  | .hbm, ⟨29, _⟩ => ⟨S33, .f32⟩
  | .hbm, ⟨30, _⟩ => ⟨S33, .f32⟩
  | .hbm, ⟨31, _⟩ => ⟨S_, .f32⟩
  | .hbm, ⟨32, _⟩ => ⟨S_, .f32⟩
  | .hbm, ⟨33, _⟩ => ⟨S33, .f32⟩
  | .hbm, ⟨34, _⟩ => ⟨S33, .f32⟩
  | .hbm, ⟨35, _⟩ => ⟨S33x224x28, .i32⟩
  | .hbm, ⟨36, _⟩ => ⟨S33x224x28, .i32⟩
  | .hbm, ⟨37, _⟩ => ⟨S33x224x28, .i32⟩
  | .hbm, ⟨38, _⟩ => ⟨S33x224x28, .i32⟩
  | .hbm, ⟨39, _⟩ => ⟨S_, .i32⟩
  | .hbm, ⟨40, _⟩ => ⟨S33x224x28, .i32⟩
  | .hbm, ⟨41, _⟩ => ⟨S33x224x28, .i32⟩
  | .hbm, ⟨42, _⟩ => ⟨S_, .i32⟩
  | .hbm, ⟨43, _⟩ => ⟨S33x224x28, .i32⟩
  | .hbm, ⟨44, _⟩ => ⟨S33x224x28, .i1⟩
  | .hbm, ⟨45, _⟩ => ⟨S33x224x28, .i32⟩
  | .hbm, ⟨46, _⟩ => ⟨S33x224x28, .i32⟩
  | .hbm, ⟨47, _⟩ => ⟨S_, .i32⟩
  | .hbm, ⟨48, _⟩ => ⟨S33x224x28, .i32⟩
  | .hbm, ⟨49, _⟩ => ⟨S33x224x28, .i1⟩
  | .hbm, ⟨50, _⟩ => ⟨S_, .i32⟩
  | .hbm, ⟨51, _⟩ => ⟨S33x224x28, .i32⟩
  | .hbm, ⟨52, _⟩ => ⟨S33x224x28, .i32⟩
  | .hbm, ⟨53, _⟩ => ⟨S33x224x28, .i32⟩
  | .hbm, ⟨54, _⟩ => ⟨S_, .i32⟩
  | .hbm, ⟨55, _⟩ => ⟨S33x224x28, .i32⟩
  | .hbm, ⟨56, _⟩ => ⟨S33x224x28, .i32⟩
  | .hbm, ⟨57, _⟩ => ⟨S33x224x28, .i1⟩
  | .hbm, ⟨58, _⟩ => ⟨S33x1x1, .f32⟩
  | .hbm, ⟨59, _⟩ => ⟨S_, .f32⟩
  | .hbm, ⟨60, _⟩ => ⟨S_, .f32⟩
  | .hbm, ⟨61, _⟩ => ⟨S33x224x28, .f32⟩
  | .hbm, ⟨62, _⟩ => ⟨S33x224x28, .f32⟩
  | .hbm, ⟨63, _⟩ => ⟨S33x224x28, .f32⟩
  | .hbm, ⟨64, _⟩ => ⟨S_, .f32⟩
  | .hbm, ⟨65, _⟩ => ⟨S224x28, .f32⟩
  | .hbm, ⟨66, _⟩ => ⟨S4x1x224x224, .f32⟩
  | .hbm, ⟨67, _⟩ => ⟨S_, .f32⟩
  | .local _ .vmem, ⟨0, _⟩ => ⟨S3136x384, .f32⟩
  | .local _ .vmem, ⟨1, _⟩ => ⟨S2000x384, .f32⟩
  | .local _ .vmem, ⟨2, _⟩ => ⟨S2000x384, .f32⟩
  | .local _ .vmem, ⟨3, _⟩ => ⟨S1x3136, .f32⟩
  | .local _ .vmem, ⟨4, _⟩ => ⟨S1x3136, .f32⟩
  | .local _ .vmem, ⟨5, _⟩ => ⟨S1x3136, .f32⟩
  | .local _ .vmem, ⟨6, _⟩ => ⟨S1x386, .f32⟩
  | .local _ .vmem, ⟨7, _⟩ => ⟨S8192x384, .f32⟩
  | .local _ .vmem, ⟨8, _⟩ => ⟨S8192x384, .f32⟩
  | .local _ .vmem, ⟨9, _⟩ => ⟨S1x1, .f32⟩
  | .local _ .vmem, ⟨10, _⟩ => ⟨S1x57344, .f32⟩
  | .local _ .vmem, ⟨11, _⟩ => ⟨S224x28, .f32⟩
  | .local _ .vmem, ⟨12, _⟩ => ⟨S1x28x28, .f32⟩
  | .local _ .vmem, ⟨13, _⟩ => ⟨S1x28x28, .f32⟩
  | .local _ .vmem, ⟨14, _⟩ => ⟨S1x1x224x224, .f32⟩
  | .local _ .vmem, ⟨15, _⟩ => ⟨S1x1x224x224, .f32⟩
  | _, _ => ⟨S3136x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3136x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![7], ![false]⟩

def k1_off1 (i : grid1.Coords) : Fin 2 → Nat :=
  let c0_8 : Index := 0#32
  let arg0 : BitVec 32 := BitVec.ofNat 32 (i 0).val
  let c8192_i32_7 : BitVec 32 := 8192#32
  let v23 : BitVec 32 := Scalar.muli arg0 c8192_i32_7
  let v24 : Index := Scalar.indexCast v23
  ![0, v24.toNat]
def k1_cond1 (i : grid1.Coords) : BitVec 1 :=
  let arg0 : BitVec 32 := BitVec.ofNat 32 (i 0).val
  let c6_i32 : BitVec 32 := 6#32
  let v28 : BitVec 1 := Scalar.cmpi .eq arg0 c6_i32
  let v29 : BitVec 32 := Scalar.extui v28
  let c0_i32 : BitVec 32 := 0#32
  let v30 : BitVec 1 := Scalar.cmpi .ne v29 c0_i32
  v30

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x386 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .vmem S224x28 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x28x28 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x224x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S3136x384 : Shape := ⟨2, ![3136, 384]⟩
abbrev S50000x384 : Shape := ⟨2, ![50000, 384]⟩
abbrev S_ : Shape := ⟨0, ![]⟩
abbrev S3136 : Shape := ⟨1, ![3136]⟩
abbrev S3136x1 : Shape := ⟨2, ![3136, 1]⟩
abbrev S50000 : Shape := ⟨1, ![50000]⟩
abbrev S1x50000 : Shape := ⟨2, ![1, 50000]⟩
abbrev S3136x50000 : Shape := ⟨2, ![3136, 50000]⟩
abbrev S384x50000 : Shape := ⟨2, ![384, 50000]⟩
abbrev S3136x9 : Shape := ⟨2, ![3136, 9]⟩
abbrev S4x1x28x28 : Shape := ⟨4, ![4, 1, 28, 28]⟩
abbrev S4x1x28x8x28 : Shape := ⟨5, ![4, 1, 28, 8, 28]⟩
abbrev S4x1x224x28 : Shape := ⟨4, ![4, 1, 224, 28]⟩
abbrev S4x1x224x28x8 : Shape := ⟨5, ![4, 1, 224, 28, 8]⟩
abbrev S4x1x224x224 : Shape := ⟨4, ![4, 1, 224, 224]⟩
abbrev S33 : Shape := ⟨1, ![33]⟩
abbrev S4x1x1x224 : Shape := ⟨4, ![4, 1, 1, 224]⟩
abbrev S4x1x16x224 : Shape := ⟨4, ![4, 1, 16, 224]⟩
abbrev S4x1x240x224 : Shape := ⟨4, ![4, 1, 240, 224]⟩
abbrev S4x1x256x224 : Shape := ⟨4, ![4, 1, 256, 224]⟩
abbrev S4x1x256x1 : Shape := ⟨4, ![4, 1, 256, 1]⟩
abbrev S4x1x256x16 : Shape := ⟨4, ![4, 1, 256, 16]⟩
abbrev S4x1x256x240 : Shape := ⟨4, ![4, 1, 256, 240]⟩
abbrev S4x1x256x256 : Shape := ⟨4, ![4, 1, 256, 256]⟩
abbrev S1 : Shape := ⟨1, ![1]⟩
abbrev S4x1x224x256 : Shape := ⟨4, ![4, 1, 224, 256]⟩
abbrev S1x9 : Shape := ⟨2, ![1, 9]⟩
abbrev S9 : Shape := ⟨1, ![9]⟩

abbrev nBuf : Space → Nat
  | .hbm => 499
  | .vmem => 0
  | .smem => 0
  | _ => 0

abbrev hbmTy0_0 (i : Nat) : BufTy := match i % 128 with
  | 0 => ⟨S3136x384, .f32⟩
  | 1 => ⟨S50000x384, .f32⟩
  | 2 => ⟨S3136x384, .f32⟩
  | 3 => ⟨S_, .f32⟩
  | 4 => ⟨S3136, .f32⟩
  | 5 => ⟨S3136x1, .f32⟩
  | 6 => ⟨S50000x384, .f32⟩
  | 7 => ⟨S_, .f32⟩
  | 8 => ⟨S50000, .f32⟩
  | 9 => ⟨S1x50000, .f32⟩
  | 10 => ⟨S3136x50000, .f32⟩
  | 11 => ⟨S3136x50000, .f32⟩
  | 12 => ⟨S3136x50000, .f32⟩
  | 13 => ⟨S384x50000, .f32⟩
  | 14 => ⟨S3136x50000, .f32⟩
  | 15 => ⟨S_, .f32⟩
  | 16 => ⟨S3136x50000, .f32⟩
  | 17 => ⟨S3136x50000, .f32⟩
  | 18 => ⟨S3136x50000, .f32⟩
  | 19 => ⟨S_, .f32⟩
  | 20 => ⟨S3136x50000, .f32⟩
  | 21 => ⟨S3136x50000, .f32⟩
  | 22 => ⟨S3136x50000, .f32⟩
  | 23 => ⟨S3136x50000, .f32⟩
  | 24 => ⟨S3136x9, .f32⟩
  | 25 => ⟨S3136x9, .i32⟩
  | 26 => ⟨S3136x9, .f32⟩
  | 27 => ⟨S3136x1, .f32⟩
  | 28 => ⟨S3136, .f32⟩
  | 29 => ⟨S4x1x28x28, .f32⟩
  | 30 => ⟨S4x1x28x8x28, .f32⟩
  | 31 => ⟨S4x1x224x28, .f32⟩
  | 32 => ⟨S4x1x224x28x8, .f32⟩
  | 33 => ⟨S4x1x224x224, .f32⟩
  | 34 => ⟨S33, .f32⟩
  | 35 => ⟨S_, .f32⟩
  | 36 => ⟨S33, .f32⟩
  | 37 => ⟨S33, .f32⟩
  | 38 => ⟨S33, .f32⟩
  | 39 => ⟨S33, .f32⟩
  | 40 => ⟨S_, .f32⟩
  | 41 => ⟨S33, .f32⟩
  | 42 => ⟨S33, .f32⟩
  | 43 => ⟨S33, .f32⟩
  | 44 => ⟨S_, .f32⟩
  | 45 => ⟨S_, .f32⟩
  | 46 => ⟨S33, .f32⟩
  | 47 => ⟨S33, .f32⟩
  | 48 => ⟨S_, .i32⟩
  | 49 => ⟨S4x1x1x224, .f32⟩
  | 50 => ⟨S4x1x16x224, .f32⟩
  | 51 => ⟨S4x1x16x224, .f32⟩
  | 52 => ⟨S4x1x240x224, .f32⟩
  | 53 => ⟨S4x1x1x224, .f32⟩
  | 54 => ⟨S4x1x16x224, .f32⟩
  | 55 => ⟨S4x1x16x224, .f32⟩
  | 56 => ⟨S4x1x256x224, .f32⟩
  | 57 => ⟨S4x1x256x1, .f32⟩
  | 58 => ⟨S4x1x256x16, .f32⟩
  | 59 => ⟨S4x1x256x16, .f32⟩
  | 60 => ⟨S4x1x256x240, .f32⟩
  | 61 => ⟨S4x1x256x1, .f32⟩
  | 62 => ⟨S4x1x256x16, .f32⟩
  | 63 => ⟨S4x1x256x16, .f32⟩
  | 64 => ⟨S4x1x256x256, .f32⟩
  | 65 => ⟨S1, .f32⟩
  | 66 => ⟨S_, .f32⟩
  | 67 => ⟨S4x1x224x256, .f32⟩
  | 68 => ⟨S4x1x224x256, .f32⟩
  | 69 => ⟨S4x1x224x256, .f32⟩
  | 70 => ⟨S_, .f32⟩
  | 71 => ⟨S4x1x224x256, .f32⟩
  | 72 => ⟨S4x1x224x256, .f32⟩
  | 73 => ⟨S1, .f32⟩
  | 74 => ⟨S_, .f32⟩
  | 75 => ⟨S4x1x224x256, .f32⟩
  | 76 => ⟨S4x1x224x256, .f32⟩
  | 77 => ⟨S4x1x224x256, .f32⟩
  | 78 => ⟨S4x1x224x256, .f32⟩
  | 79 => ⟨S1, .f32⟩
  | 80 => ⟨S_, .f32⟩
  | 81 => ⟨S4x1x224x256, .f32⟩
  | 82 => ⟨S4x1x224x256, .f32⟩
  | 83 => ⟨S4x1x224x256, .f32⟩
  | 84 => ⟨S4x1x224x256, .f32⟩
  | 85 => ⟨S1, .f32⟩
  | 86 => ⟨S_, .f32⟩
  | 87 => ⟨S4x1x224x256, .f32⟩
  | 88 => ⟨S4x1x224x256, .f32⟩
  | 89 => ⟨S4x1x224x256, .f32⟩
  | 90 => ⟨S4x1x224x256, .f32⟩
  | 91 => ⟨S1, .f32⟩
  | 92 => ⟨S_, .f32⟩
  | 93 => ⟨S4x1x224x256, .f32⟩
  | 94 => ⟨S4x1x224x256, .f32⟩
  | 95 => ⟨S4x1x224x256, .f32⟩
  | 96 => ⟨S4x1x224x256, .f32⟩
  | 97 => ⟨S1, .f32⟩
  | 98 => ⟨S_, .f32⟩
  | 99 => ⟨S4x1x224x256, .f32⟩
  | 100 => ⟨S4x1x224x256, .f32⟩
  | 101 => ⟨S4x1x224x256, .f32⟩
  | 102 => ⟨S4x1x224x256, .f32⟩
  | 103 => ⟨S1, .f32⟩
  | 104 => ⟨S_, .f32⟩
  | 105 => ⟨S4x1x224x256, .f32⟩
  | 106 => ⟨S4x1x224x256, .f32⟩
  | 107 => ⟨S4x1x224x256, .f32⟩
  | 108 => ⟨S4x1x224x256, .f32⟩
  | 109 => ⟨S1, .f32⟩
  | 110 => ⟨S_, .f32⟩
  | 111 => ⟨S4x1x224x256, .f32⟩
  | 112 => ⟨S4x1x224x256, .f32⟩
  | 113 => ⟨S4x1x224x256, .f32⟩
  | 114 => ⟨S4x1x224x256, .f32⟩
  | 115 => ⟨S1, .f32⟩
  | 116 => ⟨S_, .f32⟩
  | 117 => ⟨S4x1x224x256, .f32⟩
  | 118 => ⟨S4x1x224x256, .f32⟩
  | 119 => ⟨S4x1x224x256, .f32⟩
  | 120 => ⟨S4x1x224x256, .f32⟩
  | 121 => ⟨S1, .f32⟩
  | 122 => ⟨S_, .f32⟩
  | 123 => ⟨S4x1x224x256, .f32⟩
  | 124 => ⟨S4x1x224x256, .f32⟩
  | 125 => ⟨S4x1x224x256, .f32⟩
  | 126 => ⟨S4x1x224x256, .f32⟩
  | 127 => ⟨S1, .f32⟩
  | _ => ⟨S3136x384, .f32⟩

abbrev hbmTy0_1 (i : Nat) : BufTy := match i % 128 with
  | 0 => ⟨S_, .f32⟩
  | 1 => ⟨S4x1x224x256, .f32⟩
  | 2 => ⟨S4x1x224x256, .f32⟩
  | 3 => ⟨S4x1x224x256, .f32⟩
  | 4 => ⟨S4x1x224x256, .f32⟩
  | 5 => ⟨S1, .f32⟩
  | 6 => ⟨S_, .f32⟩
  | 7 => ⟨S4x1x224x256, .f32⟩
  | 8 => ⟨S4x1x224x256, .f32⟩
  | 9 => ⟨S4x1x224x256, .f32⟩
  | 10 => ⟨S4x1x224x256, .f32⟩
  | 11 => ⟨S1, .f32⟩
  | 12 => ⟨S_, .f32⟩
  | 13 => ⟨S4x1x224x256, .f32⟩
  | 14 => ⟨S4x1x224x256, .f32⟩
  | 15 => ⟨S4x1x224x256, .f32⟩
  | 16 => ⟨S4x1x224x256, .f32⟩
  | 17 => ⟨S1, .f32⟩
  | 18 => ⟨S_, .f32⟩
  | 19 => ⟨S4x1x224x256, .f32⟩
  | 20 => ⟨S4x1x224x256, .f32⟩
  | 21 => ⟨S4x1x224x256, .f32⟩
  | 22 => ⟨S4x1x224x256, .f32⟩
  | 23 => ⟨S1, .f32⟩
  | 24 => ⟨S_, .f32⟩
  | 25 => ⟨S4x1x224x256, .f32⟩
  | 26 => ⟨S4x1x224x256, .f32⟩
  | 27 => ⟨S4x1x224x256, .f32⟩
  | 28 => ⟨S4x1x224x256, .f32⟩
  | 29 => ⟨S1, .f32⟩
  | 30 => ⟨S_, .f32⟩
  | 31 => ⟨S4x1x224x256, .f32⟩
  | 32 => ⟨S4x1x224x256, .f32⟩
  | 33 => ⟨S4x1x224x256, .f32⟩
  | 34 => ⟨S4x1x224x256, .f32⟩
  | 35 => ⟨S1, .f32⟩
  | 36 => ⟨S_, .f32⟩
  | 37 => ⟨S4x1x224x256, .f32⟩
  | 38 => ⟨S4x1x224x256, .f32⟩
  | 39 => ⟨S4x1x224x256, .f32⟩
  | 40 => ⟨S4x1x224x256, .f32⟩
  | 41 => ⟨S1, .f32⟩
  | 42 => ⟨S_, .f32⟩
  | 43 => ⟨S4x1x224x256, .f32⟩
  | 44 => ⟨S4x1x224x256, .f32⟩
  | 45 => ⟨S4x1x224x256, .f32⟩
  | 46 => ⟨S4x1x224x256, .f32⟩
  | 47 => ⟨S1, .f32⟩
  | 48 => ⟨S_, .f32⟩
  | 49 => ⟨S4x1x224x256, .f32⟩
  | 50 => ⟨S4x1x224x256, .f32⟩
  | 51 => ⟨S4x1x224x256, .f32⟩
  | 52 => ⟨S4x1x224x256, .f32⟩
  | 53 => ⟨S1, .f32⟩
  | 54 => ⟨S_, .f32⟩
  | 55 => ⟨S4x1x224x256, .f32⟩
  | 56 => ⟨S4x1x224x256, .f32⟩
  | 57 => ⟨S4x1x224x256, .f32⟩
  | 58 => ⟨S4x1x224x256, .f32⟩
  | 59 => ⟨S1, .f32⟩
  | 60 => ⟨S_, .f32⟩
  | 61 => ⟨S4x1x224x256, .f32⟩
  | 62 => ⟨S4x1x224x256, .f32⟩
  | 63 => ⟨S4x1x224x256, .f32⟩
  | 64 => ⟨S4x1x224x256, .f32⟩
  | 65 => ⟨S1, .f32⟩
  | 66 => ⟨S_, .f32⟩
  | 67 => ⟨S4x1x224x256, .f32⟩
  | 68 => ⟨S4x1x224x256, .f32⟩
  | 69 => ⟨S4x1x224x256, .f32⟩
  | 70 => ⟨S4x1x224x256, .f32⟩
  | 71 => ⟨S1, .f32⟩
  | 72 => ⟨S_, .f32⟩
  | 73 => ⟨S4x1x224x256, .f32⟩
  | 74 => ⟨S4x1x224x256, .f32⟩
  | 75 => ⟨S4x1x224x256, .f32⟩
  | 76 => ⟨S4x1x224x256, .f32⟩
  | 77 => ⟨S1, .f32⟩
  | 78 => ⟨S_, .f32⟩
  | 79 => ⟨S4x1x224x256, .f32⟩
  | 80 => ⟨S4x1x224x256, .f32⟩
  | 81 => ⟨S4x1x224x256, .f32⟩
  | 82 => ⟨S4x1x224x256, .f32⟩
  | 83 => ⟨S1, .f32⟩
  | 84 => ⟨S_, .f32⟩
  | 85 => ⟨S4x1x224x256, .f32⟩
  | 86 => ⟨S4x1x224x256, .f32⟩
  | 87 => ⟨S4x1x224x256, .f32⟩
  | 88 => ⟨S4x1x224x256, .f32⟩
  | 89 => ⟨S1, .f32⟩
  | 90 => ⟨S_, .f32⟩
  | 91 => ⟨S4x1x224x256, .f32⟩
  | 92 => ⟨S4x1x224x256, .f32⟩
  | 93 => ⟨S4x1x224x256, .f32⟩
  | 94 => ⟨S4x1x224x256, .f32⟩
  | 95 => ⟨S1, .f32⟩
  | 96 => ⟨S_, .f32⟩
  | 97 => ⟨S4x1x224x256, .f32⟩
  | 98 => ⟨S4x1x224x256, .f32⟩
  | 99 => ⟨S4x1x224x256, .f32⟩
  | 100 => ⟨S4x1x224x256, .f32⟩
  | 101 => ⟨S1, .f32⟩
  | 102 => ⟨S_, .f32⟩
  | 103 => ⟨S4x1x224x256, .f32⟩
  | 104 => ⟨S4x1x224x256, .f32⟩
  | 105 => ⟨S4x1x224x256, .f32⟩
  | 106 => ⟨S4x1x224x256, .f32⟩
  | 107 => ⟨S1, .f32⟩
  | 108 => ⟨S_, .f32⟩
  | 109 => ⟨S4x1x224x256, .f32⟩
  | 110 => ⟨S4x1x224x256, .f32⟩
  | 111 => ⟨S4x1x224x256, .f32⟩
  | 112 => ⟨S4x1x224x256, .f32⟩
  | 113 => ⟨S1, .f32⟩
  | 114 => ⟨S_, .f32⟩
  | 115 => ⟨S4x1x224x256, .f32⟩
  | 116 => ⟨S4x1x224x256, .f32⟩
  | 117 => ⟨S4x1x224x256, .f32⟩
  | 118 => ⟨S4x1x224x256, .f32⟩
  | 119 => ⟨S1, .f32⟩
  | 120 => ⟨S_, .f32⟩
  | 121 => ⟨S4x1x224x256, .f32⟩
  | 122 => ⟨S4x1x224x256, .f32⟩
  | 123 => ⟨S4x1x224x256, .f32⟩
  | 124 => ⟨S4x1x224x256, .f32⟩
  | 125 => ⟨S1, .f32⟩
  | 126 => ⟨S_, .f32⟩
  | 127 => ⟨S4x1x224x256, .f32⟩
  | _ => ⟨S3136x384, .f32⟩

abbrev hbmTy0_2 (i : Nat) : BufTy := match i % 128 with
  | 0 => ⟨S4x1x224x256, .f32⟩
  | 1 => ⟨S4x1x224x256, .f32⟩
  | 2 => ⟨S4x1x224x256, .f32⟩
  | 3 => ⟨S1, .f32⟩
  | 4 => ⟨S_, .f32⟩
  | 5 => ⟨S4x1x224x256, .f32⟩
  | 6 => ⟨S4x1x224x256, .f32⟩
  | 7 => ⟨S4x1x224x256, .f32⟩
  | 8 => ⟨S4x1x224x256, .f32⟩
  | 9 => ⟨S1, .f32⟩
  | 10 => ⟨S_, .f32⟩
  | 11 => ⟨S4x1x224x224, .f32⟩
  | 12 => ⟨S4x1x224x224, .f32⟩
  | 13 => ⟨S4x1x224x224, .f32⟩
  | 14 => ⟨S_, .f32⟩
  | 15 => ⟨S4x1x224x224, .f32⟩
  | 16 => ⟨S4x1x224x224, .f32⟩
  | 17 => ⟨S1, .f32⟩
  | 18 => ⟨S_, .f32⟩
  | 19 => ⟨S4x1x224x224, .f32⟩
  | 20 => ⟨S4x1x224x224, .f32⟩
  | 21 => ⟨S4x1x224x224, .f32⟩
  | 22 => ⟨S4x1x224x224, .f32⟩
  | 23 => ⟨S1, .f32⟩
  | 24 => ⟨S_, .f32⟩
  | 25 => ⟨S4x1x224x224, .f32⟩
  | 26 => ⟨S4x1x224x224, .f32⟩
  | 27 => ⟨S4x1x224x224, .f32⟩
  | 28 => ⟨S4x1x224x224, .f32⟩
  | 29 => ⟨S1, .f32⟩
  | 30 => ⟨S_, .f32⟩
  | 31 => ⟨S4x1x224x224, .f32⟩
  | 32 => ⟨S4x1x224x224, .f32⟩
  | 33 => ⟨S4x1x224x224, .f32⟩
  | 34 => ⟨S4x1x224x224, .f32⟩
  | 35 => ⟨S1, .f32⟩
  | 36 => ⟨S_, .f32⟩
  | 37 => ⟨S4x1x224x224, .f32⟩
  | 38 => ⟨S4x1x224x224, .f32⟩
  | 39 => ⟨S4x1x224x224, .f32⟩
  | 40 => ⟨S4x1x224x224, .f32⟩
  | 41 => ⟨S1, .f32⟩
  | 42 => ⟨S_, .f32⟩
  | 43 => ⟨S4x1x224x224, .f32⟩
  | 44 => ⟨S4x1x224x224, .f32⟩
  | 45 => ⟨S4x1x224x224, .f32⟩
  | 46 => ⟨S4x1x224x224, .f32⟩
  | 47 => ⟨S1, .f32⟩
  | 48 => ⟨S_, .f32⟩
  | 49 => ⟨S4x1x224x224, .f32⟩
  | 50 => ⟨S4x1x224x224, .f32⟩
  | 51 => ⟨S4x1x224x224, .f32⟩
  | 52 => ⟨S4x1x224x224, .f32⟩
  | 53 => ⟨S1, .f32⟩
  | 54 => ⟨S_, .f32⟩
  | 55 => ⟨S4x1x224x224, .f32⟩
  | 56 => ⟨S4x1x224x224, .f32⟩
  | 57 => ⟨S4x1x224x224, .f32⟩
  | 58 => ⟨S4x1x224x224, .f32⟩
  | 59 => ⟨S1, .f32⟩
  | 60 => ⟨S_, .f32⟩
  | 61 => ⟨S4x1x224x224, .f32⟩
  | 62 => ⟨S4x1x224x224, .f32⟩
  | 63 => ⟨S4x1x224x224, .f32⟩
  | 64 => ⟨S4x1x224x224, .f32⟩
  | 65 => ⟨S1, .f32⟩
  | 66 => ⟨S_, .f32⟩
  | 67 => ⟨S4x1x224x224, .f32⟩
  | 68 => ⟨S4x1x224x224, .f32⟩
  | 69 => ⟨S4x1x224x224, .f32⟩
  | 70 => ⟨S4x1x224x224, .f32⟩
  | 71 => ⟨S1, .f32⟩
  | 72 => ⟨S_, .f32⟩
  | 73 => ⟨S4x1x224x224, .f32⟩
  | 74 => ⟨S4x1x224x224, .f32⟩
  | 75 => ⟨S4x1x224x224, .f32⟩
  | 76 => ⟨S4x1x224x224, .f32⟩
  | 77 => ⟨S1, .f32⟩
  | 78 => ⟨S_, .f32⟩
  | 79 => ⟨S4x1x224x224, .f32⟩
  | 80 => ⟨S4x1x224x224, .f32⟩
  | 81 => ⟨S4x1x224x224, .f32⟩
  | 82 => ⟨S4x1x224x224, .f32⟩
  | 83 => ⟨S1, .f32⟩
  | 84 => ⟨S_, .f32⟩
  | 85 => ⟨S4x1x224x224, .f32⟩
  | 86 => ⟨S4x1x224x224, .f32⟩
  | 87 => ⟨S4x1x224x224, .f32⟩
  | 88 => ⟨S4x1x224x224, .f32⟩
  | 89 => ⟨S1, .f32⟩
  | 90 => ⟨S_, .f32⟩
  | 91 => ⟨S4x1x224x224, .f32⟩
  | 92 => ⟨S4x1x224x224, .f32⟩
  | 93 => ⟨S4x1x224x224, .f32⟩
  | 94 => ⟨S4x1x224x224, .f32⟩
  | 95 => ⟨S1, .f32⟩
  | 96 => ⟨S_, .f32⟩
  | 97 => ⟨S4x1x224x224, .f32⟩
  | 98 => ⟨S4x1x224x224, .f32⟩
  | 99 => ⟨S4x1x224x224, .f32⟩
  | 100 => ⟨S4x1x224x224, .f32⟩
  | 101 => ⟨S1, .f32⟩
  | 102 => ⟨S_, .f32⟩
  | 103 => ⟨S4x1x224x224, .f32⟩
  | 104 => ⟨S4x1x224x224, .f32⟩
  | 105 => ⟨S4x1x224x224, .f32⟩
  | 106 => ⟨S4x1x224x224, .f32⟩
  | 107 => ⟨S1, .f32⟩
  | 108 => ⟨S_, .f32⟩
  | 109 => ⟨S4x1x224x224, .f32⟩
  | 110 => ⟨S4x1x224x224, .f32⟩
  | 111 => ⟨S4x1x224x224, .f32⟩
  | 112 => ⟨S4x1x224x224, .f32⟩
  | 113 => ⟨S1, .f32⟩
  | 114 => ⟨S_, .f32⟩
  | 115 => ⟨S4x1x224x224, .f32⟩
  | 116 => ⟨S4x1x224x224, .f32⟩
  | 117 => ⟨S4x1x224x224, .f32⟩
  | 118 => ⟨S4x1x224x224, .f32⟩
  | 119 => ⟨S1, .f32⟩
  | 120 => ⟨S_, .f32⟩
  | 121 => ⟨S4x1x224x224, .f32⟩
  | 122 => ⟨S4x1x224x224, .f32⟩
  | 123 => ⟨S4x1x224x224, .f32⟩
  | 124 => ⟨S4x1x224x224, .f32⟩
  | 125 => ⟨S1, .f32⟩
  | 126 => ⟨S_, .f32⟩
  | 127 => ⟨S4x1x224x224, .f32⟩
  | _ => ⟨S3136x384, .f32⟩

abbrev hbmTy0_3 (i : Nat) : BufTy := match i % 128 with
  | 0 => ⟨S4x1x224x224, .f32⟩
  | 1 => ⟨S4x1x224x224, .f32⟩
  | 2 => ⟨S4x1x224x224, .f32⟩
  | 3 => ⟨S1, .f32⟩
  | 4 => ⟨S_, .f32⟩
  | 5 => ⟨S4x1x224x224, .f32⟩
  | 6 => ⟨S4x1x224x224, .f32⟩
  | 7 => ⟨S4x1x224x224, .f32⟩
  | 8 => ⟨S4x1x224x224, .f32⟩
  | 9 => ⟨S1, .f32⟩
  | 10 => ⟨S_, .f32⟩
  | 11 => ⟨S4x1x224x224, .f32⟩
  | 12 => ⟨S4x1x224x224, .f32⟩
  | 13 => ⟨S4x1x224x224, .f32⟩
  | 14 => ⟨S4x1x224x224, .f32⟩
  | 15 => ⟨S1, .f32⟩
  | 16 => ⟨S_, .f32⟩
  | 17 => ⟨S4x1x224x224, .f32⟩
  | 18 => ⟨S4x1x224x224, .f32⟩
  | 19 => ⟨S4x1x224x224, .f32⟩
  | 20 => ⟨S4x1x224x224, .f32⟩
  | 21 => ⟨S1, .f32⟩
  | 22 => ⟨S_, .f32⟩
  | 23 => ⟨S4x1x224x224, .f32⟩
  | 24 => ⟨S4x1x224x224, .f32⟩
  | 25 => ⟨S4x1x224x224, .f32⟩
  | 26 => ⟨S4x1x224x224, .f32⟩
  | 27 => ⟨S1, .f32⟩
  | 28 => ⟨S_, .f32⟩
  | 29 => ⟨S4x1x224x224, .f32⟩
  | 30 => ⟨S4x1x224x224, .f32⟩
  | 31 => ⟨S4x1x224x224, .f32⟩
  | 32 => ⟨S4x1x224x224, .f32⟩
  | 33 => ⟨S1, .f32⟩
  | 34 => ⟨S_, .f32⟩
  | 35 => ⟨S4x1x224x224, .f32⟩
  | 36 => ⟨S4x1x224x224, .f32⟩
  | 37 => ⟨S4x1x224x224, .f32⟩
  | 38 => ⟨S4x1x224x224, .f32⟩
  | 39 => ⟨S1, .f32⟩
  | 40 => ⟨S_, .f32⟩
  | 41 => ⟨S4x1x224x224, .f32⟩
  | 42 => ⟨S4x1x224x224, .f32⟩
  | 43 => ⟨S4x1x224x224, .f32⟩
  | 44 => ⟨S4x1x224x224, .f32⟩
  | 45 => ⟨S1, .f32⟩
  | 46 => ⟨S_, .f32⟩
  | 47 => ⟨S4x1x224x224, .f32⟩
  | 48 => ⟨S4x1x224x224, .f32⟩
  | 49 => ⟨S4x1x224x224, .f32⟩
  | 50 => ⟨S4x1x224x224, .f32⟩
  | 51 => ⟨S1, .f32⟩
  | 52 => ⟨S_, .f32⟩
  | 53 => ⟨S4x1x224x224, .f32⟩
  | 54 => ⟨S4x1x224x224, .f32⟩
  | 55 => ⟨S4x1x224x224, .f32⟩
  | 56 => ⟨S4x1x224x224, .f32⟩
  | 57 => ⟨S1, .f32⟩
  | 58 => ⟨S_, .f32⟩
  | 59 => ⟨S4x1x224x224, .f32⟩
  | 60 => ⟨S4x1x224x224, .f32⟩
  | 61 => ⟨S4x1x224x224, .f32⟩
  | 62 => ⟨S4x1x224x224, .f32⟩
  | 63 => ⟨S1, .f32⟩
  | 64 => ⟨S_, .f32⟩
  | 65 => ⟨S4x1x224x224, .f32⟩
  | 66 => ⟨S4x1x224x224, .f32⟩
  | 67 => ⟨S4x1x224x224, .f32⟩
  | 68 => ⟨S4x1x224x224, .f32⟩
  | 69 => ⟨S1, .f32⟩
  | 70 => ⟨S_, .f32⟩
  | 71 => ⟨S4x1x224x224, .f32⟩
  | 72 => ⟨S4x1x224x224, .f32⟩
  | 73 => ⟨S4x1x224x224, .f32⟩
  | 74 => ⟨S4x1x224x224, .f32⟩
  | 75 => ⟨S1, .f32⟩
  | 76 => ⟨S_, .f32⟩
  | 77 => ⟨S4x1x224x224, .f32⟩
  | 78 => ⟨S4x1x224x224, .f32⟩
  | 79 => ⟨S4x1x224x224, .f32⟩
  | 80 => ⟨S4x1x224x224, .f32⟩
  | 81 => ⟨S3136x1, .f32⟩
  | 82 => ⟨S3136, .f32⟩
  | 83 => ⟨S1, .f32⟩
  | 84 => ⟨S1, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x9, .f32⟩
  | 100 => ⟨S9, .f32⟩
  | 101 => ⟨S9, .f32⟩
  | 102 => ⟨S_, .f32⟩
  | 103 => ⟨S_, .f32⟩
  | 104 => ⟨S9, .f32⟩
  | 105 => ⟨S_, .f32⟩
  | 106 => ⟨S_, .f32⟩
  | 107 => ⟨S_, .f32⟩
  | 108 => ⟨S_, .f32⟩
  | 109 => ⟨S_, .f32⟩
  | 110 => ⟨S3136x1, .f32⟩
  | 111 => ⟨S3136, .f32⟩
  | 112 => ⟨S_, .f32⟩
  | 113 => ⟨S_, .f32⟩
  | 114 => ⟨S_, .f32⟩
  | _ => ⟨S3136x384, .f32⟩

abbrev hbmTy (i : Nat) : BufTy := match i / 128 with
  | 0 => hbmTy0_0 i
  | 1 => hbmTy0_1 i
  | 2 => hbmTy0_2 i
  | 3 => hbmTy0_3 i
  | _ => ⟨S3136x384, .f32⟩

abbrev bufTy : (tb : Table) → Fin (tcTables nBuf tb) → BufTy
  | .hbm, ⟨i, _⟩ => hbmTy i
  | _, _ => ⟨S3136x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_cst_7 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_v341 : Ref sig .tc := ⟨.hbm, 370, rfl⟩
abbrev main_v342 : Ref sig .tc := ⟨.hbm, 371, rfl⟩
abbrev main_v343 : Ref sig .tc := ⟨.hbm, 372, rfl⟩
abbrev main_v344 : Ref sig .tc := ⟨.hbm, 373, rfl⟩
abbrev main_v345 : Ref sig .tc := ⟨.hbm, 374, rfl⟩
abbrev main_v346 : Ref sig .tc := ⟨.hbm, 375, rfl⟩
abbrev main_v347 : Ref sig .tc := ⟨.hbm, 376, rfl⟩
abbrev main_v348 : Ref sig .tc := ⟨.hbm, 377, rfl⟩
abbrev main_v349 : Ref sig .tc := ⟨.hbm, 378, rfl⟩
abbrev main_v350 : Ref sig .tc := ⟨.hbm, 379, rfl⟩
abbrev main_v351 : Ref sig .tc := ⟨.hbm, 380, rfl⟩
abbrev main_v352 : Ref sig .tc := ⟨.hbm, 381, rfl⟩
abbrev main_v353 : Ref sig .tc := ⟨.hbm, 382, rfl⟩
abbrev main_v354 : Ref sig .tc := ⟨.hbm, 383, rfl⟩
abbrev main_v355 : Ref sig .tc := ⟨.hbm, 384, rfl⟩
abbrev main_v356 : Ref sig .tc := ⟨.hbm, 385, rfl⟩
abbrev main_v357 : Ref sig .tc := ⟨.hbm, 386, rfl⟩
abbrev main_v358 : Ref sig .tc := ⟨.hbm, 387, rfl⟩
abbrev main_v359 : Ref sig .tc := ⟨.hbm, 388, rfl⟩
abbrev main_v360 : Ref sig .tc := ⟨.hbm, 389, rfl⟩
abbrev main_v361 : Ref sig .tc := ⟨.hbm, 390, rfl⟩
abbrev main_v362 : Ref sig .tc := ⟨.hbm, 391, rfl⟩
abbrev main_v363 : Ref sig .tc := ⟨.hbm, 392, rfl⟩
abbrev main_v364 : Ref sig .tc := ⟨.hbm, 393, rfl⟩
abbrev main_v365 : Ref sig .tc := ⟨.hbm, 394, rfl⟩
abbrev main_v366 : Ref sig .tc := ⟨.hbm, 395, rfl⟩
abbrev main_v367 : Ref sig .tc := ⟨.hbm, 396, rfl⟩
abbrev main_v368 : Ref sig .tc := ⟨.hbm, 397, rfl⟩
abbrev main_v369 : Ref sig .tc := ⟨.hbm, 398, rfl⟩
abbrev main_v370 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_v377 : Ref sig .tc := ⟨.hbm, 406, rfl⟩
abbrev main_v378 : Ref sig .tc := ⟨.hbm, 407, rfl⟩
abbrev main_v379 : Ref sig .tc := ⟨.hbm, 408, rfl⟩
abbrev main_v380 : Ref sig .tc := ⟨.hbm, 409, rfl⟩
abbrev main_v381 : Ref sig .tc := ⟨.hbm, 410, rfl⟩
abbrev main_v382 : Ref sig .tc := ⟨.hbm, 411, rfl⟩
abbrev main_v383 : Ref sig .tc := ⟨.hbm, 412, rfl⟩
abbrev main_v384 : Ref sig .tc := ⟨.hbm, 413, rfl⟩
abbrev main_v385 : Ref sig .tc := ⟨.hbm, 414, rfl⟩
abbrev main_v386 : Ref sig .tc := ⟨.hbm, 415, rfl⟩
abbrev main_v387 : Ref sig .tc := ⟨.hbm, 416, rfl⟩
abbrev main_v388 : Ref sig .tc := ⟨.hbm, 417, rfl⟩
abbrev main_v389 : Ref sig .tc := ⟨.hbm, 418, rfl⟩
abbrev main_v390 : Ref sig .tc := ⟨.hbm, 419, rfl⟩
abbrev main_v391 : Ref sig .tc := ⟨.hbm, 420, rfl⟩
abbrev main_v392 : Ref sig .tc := ⟨.hbm, 421, rfl⟩
abbrev main_v393 : Ref sig .tc := ⟨.hbm, 422, rfl⟩
abbrev main_v394 : Ref sig .tc := ⟨.hbm, 423, rfl⟩
abbrev main_v395 : Ref sig .tc := ⟨.hbm, 424, rfl⟩
abbrev main_v396 : Ref sig .tc := ⟨.hbm, 425, rfl⟩
abbrev main_v397 : Ref sig .tc := ⟨.hbm, 426, rfl⟩
abbrev main_v398 : Ref sig .tc := ⟨.hbm, 427, rfl⟩
abbrev main_v399 : Ref sig .tc := ⟨.hbm, 428, rfl⟩
abbrev main_v400 : Ref sig .tc := ⟨.hbm, 429, rfl⟩
abbrev main_v401 : Ref sig .tc := ⟨.hbm, 430, rfl⟩
abbrev main_v402 : Ref sig .tc := ⟨.hbm, 431, rfl⟩
abbrev main_v403 : Ref sig .tc := ⟨.hbm, 432, rfl⟩
abbrev main_v404 : Ref sig .tc := ⟨.hbm, 433, rfl⟩
abbrev main_v405 : Ref sig .tc := ⟨.hbm, 434, rfl⟩
abbrev main_v406 : Ref sig .tc := ⟨.hbm, 435, rfl⟩
abbrev main_v407 : Ref sig .tc := ⟨.hbm, 436, rfl⟩
abbrev main_v408 : Ref sig .tc := ⟨.hbm, 437, rfl⟩
abbrev main_v409 : Ref sig .tc := ⟨.hbm, 438, rfl⟩
abbrev main_v410 : Ref sig .tc := ⟨.hbm, 439, rfl⟩
abbrev main_v411 : Ref sig .tc := ⟨.hbm, 440, rfl⟩
abbrev main_v412 : Ref sig .tc := ⟨.hbm, 441, rfl⟩
abbrev main_v413 : Ref sig .tc := ⟨.hbm, 442, rfl⟩
abbrev main_v414 : Ref sig .tc := ⟨.hbm, 443, rfl⟩
abbrev main_v415 : Ref sig .tc := ⟨.hbm, 444, rfl⟩
abbrev main_v416 : Ref sig .tc := ⟨.hbm, 445, rfl⟩
abbrev main_v417 : Ref sig .tc := ⟨.hbm, 446, rfl⟩
abbrev main_v418 : Ref sig .tc := ⟨.hbm, 447, rfl⟩
abbrev main_v419 : Ref sig .tc := ⟨.hbm, 448, rfl⟩
abbrev main_v420 : Ref sig .tc := ⟨.hbm, 449, rfl⟩
abbrev main_v421 : Ref sig .tc := ⟨.hbm, 450, rfl⟩
abbrev main_v422 : Ref sig .tc := ⟨.hbm, 451, rfl⟩
abbrev main_v423 : Ref sig .tc := ⟨.hbm, 452, rfl⟩
abbrev main_v424 : Ref sig .tc := ⟨.hbm, 453, rfl⟩
abbrev main_v425 : Ref sig .tc := ⟨.hbm, 454, rfl⟩
abbrev main_v426 : Ref sig .tc := ⟨.hbm, 455, rfl⟩
abbrev main_v427 : Ref sig .tc := ⟨.hbm, 456, rfl⟩
abbrev main_v428 : Ref sig .tc := ⟨.hbm, 457, rfl⟩
abbrev main_v429 : Ref sig .tc := ⟨.hbm, 458, rfl⟩
abbrev main_v430 : Ref sig .tc := ⟨.hbm, 459, rfl⟩
abbrev main_v431 : Ref sig .tc := ⟨.hbm, 460, rfl⟩
abbrev main_v432 : Ref sig .tc := ⟨.hbm, 461, rfl⟩
abbrev main_v433 : Ref sig .tc := ⟨.hbm, 462, rfl⟩
abbrev main_v434 : Ref sig .tc := ⟨.hbm, 463, rfl⟩
abbrev main_v435 : Ref sig .tc := ⟨.hbm, 464, rfl⟩
abbrev main_v436 : Ref sig .tc := ⟨.hbm, 465, rfl⟩
abbrev main_v437 : Ref sig .tc := ⟨.hbm, 466, rfl⟩
abbrev main_values_8 : Ref sig .tc := ⟨.hbm, 467, rfl⟩
abbrev main_indices_9 : Ref sig .tc := ⟨.hbm, 468, rfl⟩
abbrev main_v438 : Ref sig .tc := ⟨.hbm, 469, rfl⟩
abbrev main_c_10 : Ref sig .tc := ⟨.hbm, 470, rfl⟩
abbrev main_v439 : Ref sig .tc := ⟨.hbm, 471, rfl⟩
abbrev main_c_11 : Ref sig .tc := ⟨.hbm, 472, rfl⟩
abbrev main_v440 : Ref sig .tc := ⟨.hbm, 473, rfl⟩
abbrev main_v441 : Ref sig .tc := ⟨.hbm, 474, rfl⟩
abbrev main_c_12 : Ref sig .tc := ⟨.hbm, 475, rfl⟩
abbrev main_c_13 : Ref sig .tc := ⟨.hbm, 476, rfl⟩
abbrev main_v442 : Ref sig .tc := ⟨.hbm, 477, rfl⟩
abbrev main_c_14 : Ref sig .tc := ⟨.hbm, 478, rfl⟩
abbrev main_c_15 : Ref sig .tc := ⟨.hbm, 479, rfl⟩
abbrev main_v443 : Ref sig .tc := ⟨.hbm, 480, rfl⟩
abbrev main_c_16 : Ref sig .tc := ⟨.hbm, 481, rfl⟩
abbrev main_v444 : Ref sig .tc := ⟨.hbm, 482, rfl⟩
abbrev main_v445 : Ref sig .tc := ⟨.hbm, 483, rfl⟩
abbrev main_v446 : Ref sig .tc := ⟨.hbm, 484, rfl⟩
abbrev main_v447 : Ref sig .tc := ⟨.hbm, 485, rfl⟩
abbrev main_cst_17 : Ref sig .tc := ⟨.hbm, 486, rfl⟩
abbrev main_v448 : Ref sig .tc := ⟨.hbm, 487, rfl⟩
abbrev main_v449 : Ref sig .tc := ⟨.hbm, 488, rfl⟩
abbrev main_cst_18 : Ref sig .tc := ⟨.hbm, 489, rfl⟩
abbrev main_v450 : Ref sig .tc := ⟨.hbm, 490, rfl⟩
abbrev main_v451 : Ref sig .tc := ⟨.hbm, 491, rfl⟩
abbrev main_cst_19 : Ref sig .tc := ⟨.hbm, 492, rfl⟩
abbrev main_v452 : Ref sig .tc := ⟨.hbm, 493, rfl⟩
abbrev main_v453 : Ref sig .tc := ⟨.hbm, 494, rfl⟩
abbrev main_v454 : Ref sig .tc := ⟨.hbm, 495, rfl⟩
abbrev main_cst_20 : Ref sig .tc := ⟨.hbm, 496, rfl⟩
abbrev main_v455 : Ref sig .tc := ⟨.hbm, 497, rfl⟩
abbrev main_v456 : Ref sig .tc := ⟨.hbm, 498, rfl⟩

abbrev nD : Nat := 1
abbrev τ : Topo := Topo.v7x

variable {F : FTy → Type} [FloatOps F]
-- ==== Proof.HeldRegion.lean ====
/-
  A kernel call inside a program, entered with every unscoped buffer at a valuation and left with every unscoped buffer at a
  valuation. Both valuations may depend on a witness, because what a call leaves may be known only up to a relation.
-/
module

public import Idealize.ShloMosaic.Lib.Pipeline.Frame
public import Idealize.ShloMosaic.Lib.Pipeline.Regions
public import Idealize.ShloMosaic.Lib.Pipeline.RegionArrays
public import Idealize.ShloMosaic.Lib.Pipeline.RegionsOwned
public import Idealize.ShloMosaic.Lib.Pipeline.DatRel

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg PCfg pin arrRef arrRefs PLaunchFacts)

variable {nD : Nat} {τ : Topo} {sig : RefSig} {Val : EltTy → Type} {Λ₀ : Idealize.SL.Sem.Labels} {P : Type} [Fintype P]

local notation "𝕄" => MT nD τ sig Unit Val ℕ (UR sig nD τ) ℕ

/-! ## Valuations that agree off one buffer -/

/-- Host operations that do not touch the buffer `b` keep two valuations equal off `b`. -/
theorem after_agree_off (b : DevRef τ sig) (ops : List (HloOp τ sig Val)) (h : ∀ op ∈ ops, b ∉ op.bufs)
    (V W : Valuation τ sig Val) (hVW : ∀ d, d ≠ b → V d = W d) : ∀ d, d ≠ b → StableHlo.after ops V d = StableHlo.after ops W d := by
  induction ops generalizing V W with
  | nil => exact hVW
  | cons op ops ih =>
    refine ih (fun o ho => h o (List.mem_cons_of_mem _ ho)) _ _ fun d hd => ?_
    by_cases hw : d ∈ op.writes
    · exact op.result_congr (fun x hx => hVW x fun e => h op List.mem_cons_self (e ▸ hx)) d (op.writes_sub hw)
    · rw [op.result_of_not_mem V hw, op.result_of_not_mem W hw]; exact hVW d hd

/-! ## The call's record -/

variable (pcs : P → PCfg sig Λ₀ Val) (a : (p : P) → (pcs p).Adm)
  (pdats : (p : P) → (c : Dev nD) → Dat τ Val Unit ℕ (UR sig nD τ) ℕ (pin pcs a p) c)
  (fg : (p : P) → Fin (pin pcs a p).W → Bool)
  (Rl : (p : P) → (c : Dev nD) → (w : Fin (pin pcs a p).W) → Fin (pin pcs a p).N → (((pin pcs a p).win w).block.Idx → Val ((pin pcs a p).win w).elt) → Prop)

/-- The proof data of every call, read relationally at the marked windows. -/
abbrev rels : (p : P) → (c : Dev nD) → RDat τ Val Unit ℕ (UR sig nD τ) ℕ (pin pcs a p) c :=
  fun p c => (pdats p c).toRRel (fg p) (Rl p c)

/-- What a core holds beside the buffers: its generator register, and that it owes nothing. -/
abbrev beside (c : Dev nD) : sProp 𝕄 := iprop((∃ r, prngReg c r) ∗ ∃ W, owes (c : Thread nD τ) (0 : CellTallies nD τ sig Unit) W)

/-- A core's unscoped buffers at a valuation that some witness gives, and what the core holds beside them. -/
abbrev heldAt {Γ : Dev nD → Type} (V : (c : Dev nD) → Γ c → Valuation τ sig Val) (c : Dev nD) : sProp 𝕄 :=
  iprop((∃ γ : Γ c, StableHlo.held (c : Thread nD τ) (Pipeline.ucRefs τ sig) (V c γ)) ∗ beside c)

/-- The arrays at what the relation allows are the arrays at one choice of allowed contents. -/
theorem arrays_chosen [∀ e, Nonempty (Val e)] {cfg : Cfg sig Λ₀} {c : Dev nD} (rd : RDat τ Val Unit ℕ (UR sig nD τ) ℕ cfg c) (n : ℕ) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

set_option backward.isDefEq.respectTransparency.types false in
/-- The record of a kernel call from its proof data. `hV` says that the entry valuation holds the arrays at what the data
    start from. `hV'` says that whatever the call may leave in its arrays is held by some exit valuation, which agrees with the
    entry valuation on every other buffer. -/
def heldRegion [∀ e, Nonempty (Val e)] (p : P) (defs₀ : Defs nD τ sig Val Λ₀) (L : GSem nD τ sig → Finset Unit) (lv : GSem nD τ sig → Unit → ℕ)
    {Γ Γ' : Dev nD → Type} (V : (c : Dev nD) → Γ c → Valuation τ sig Val) (V' : (c : Dev nD) → Γ' c → Valuation τ sig Val)
    (kit : PLaunchFacts (nD := nD) (τ := τ) pcs p) (hK : (pcs p).pre.K = 0)
    (hbody : ∀ c, (rels pcs a pdats fg Rl p c).BodyObligation defs₀ Variants.none () Set.univ)
    (howed : ∀ q c t, (pdats q c).owed t = 0) (hrec : ∀ c, (pdats p c).recorded 0 = Set.univ)
    (hshare : ∀ c w, (pdats p c).share w = fullShare)
    (hin : ∀ c, Pipeline.ΦA (pin pcs a p).spec c ⊢ (pdats p c).Φ 0)
    (hout : ∀ c, (pdats p c).Φ (Fin.last (pin pcs a p).N) ⊢ Pipeline.ΦA (pin pcs a p).spec c)
    (hV : ∀ c γ w, (pdats p c).A w = V c γ (Proc.devRef .tc (arrRef (pin pcs a p).spec w)))
    (hV' : ∀ c γ (A : (w : Fin (pin pcs a p).W) → Buf Val (((pin pcs a p).win w).arr.view.loc (c.tc : Thread nD τ))),
      (∀ w, (rels pcs a pdats fg Rl p c).ArrAt w (pin pcs a p).N (A w)) →
      ∃ γ', (∀ w, A w = V' c γ' (Proc.devRef .tc (arrRef (pin pcs a p).spec w)))
        ∧ ∀ d ∈ Pipeline.ucRefs τ sig \ arrRefs (pcs p).spec, V' c γ' d = V c γ d) :
    RDat.RegionSeg pcs a (rels pcs a pdats fg Rl) () defs₀ Variants.none L lv p where
  win := kit.to₀.win
  block_pos := kit.to₀.block_pos
  stage_whole := kit.to₀.stage_whole
  K := PEmpty
  osem k := k.elim
  ho := Pipeline.OwnSemFacts.none _
  hbody := hbody
  hwaits := RDat.hwaits_of_owed_zero _ _ _ _ L lv p fun c t => howed p c t
  pre c := heldAt V c
  post c := heldAt V' c
  X c := iprop(∃ r, prngReg c r)
  Y c := iprop(∃ r, prngReg c r)
  Z c := iprop(∃ γ : Γ c, ⌜∀ w, (pdats p c).A w = V c γ (Proc.devRef .tc (arrRef (pin pcs a p).spec w))⌝
    ∗ StableHlo.held (c.tc : Thread nD τ) (Pipeline.ucRefs τ sig \ arrRefs (pcs p).spec) (V c γ))
  hentry c := by
    show _ ⊢ |={Set.univ}=> iprop((pdats p c).arrays (pdats p c).A ∗ Pipeline.prefHeld (pcs p).pre c (fun _ => fullShare) (a p).1
        ∗ (pdats p c).owesAt () 0 ∗ _ ∗ _)
    have hsub := Pipeline.arrRefs_sub_ucRefs (τ := τ) (pcs p).spec kit.win.arr_unscoped
    rw [Pipeline.prefHeld_of_none _ hK]
    iintro ⟨⟨⟨%γ, Hh⟩, Hp, HO⟩, -, -⟩
    have e : (StableHlo.held (c.tc : Thread nD τ) (Pipeline.ucRefs τ sig) (V c γ) : sProp 𝕄)
        = iprop((pdats p c).arrays (pdats p c).A ∗ StableHlo.held (c.tc : Thread nD τ) (Pipeline.ucRefs τ sig \ arrRefs (pcs p).spec) (V c γ)) := by
      rw [StableHlo.held_sub_split (c.tc : Thread nD τ) hsub (V c γ),
        ← Pipeline.arrays_held pcs a pdats p kit c (hshare c) (pdats p c).A (V c γ) (hV c γ)]
    ihave Hh := (Entails.of_eq e) $$ Hh
    icases Hh with ⟨Ha, Hr⟩
    imodintro
    isplitl [Ha]; · iexact Ha
    isplitr; · iempintro
    isplitl [HO]
    · unfold Dat.owesAt Pipeline.owesWithin Dat.bound
      rw [howed p c 0, hrec c]
      icases HO with ⟨%Wd, HO⟩; iexists Wd; isplitr; · ipureintro; exact fun _ _ => Or.inl trivial
      iexact HO
    isplitl [Hp]; · iexact Hp
    iexists γ
    isplitr; · ipureintro; exact hV c γ
    iexact Hr
  hin c := (show _ ⊢ Pipeline.ΦA (pin pcs a p).spec c from by
    unfold Pipeline.ΦA
    iintro ⟨HX, -, Hr⟩
    isplitl [Hr]; · iexact Hr
    iexact HX).trans (hin c)
  hout c := by
    refine (hout c).trans ?_
    unfold Pipeline.ΦA
    rw [Pipeline.ownSems0_none]
    iintro ⟨Hr, HY⟩
    isplitl [HY]; · iexact HY
    isplitr; · iempintro
    iexact Hr
  hexit c := by
    have hsub := Pipeline.arrRefs_sub_ucRefs (τ := τ) (pcs p).spec kit.win.arr_unscoped
    show iprop((rels pcs a pdats fg Rl p c).arraysAt (pin pcs a p).N ∗ (pdats p c).owesAt () (Fin.last (pin pcs a p).N) ∗ _ ∗ _) ⊢ _
    iintro ⟨Ha, HO, Hp, ⟨%γ, %hγ, Hr⟩⟩
    ihave Ha := (show (rels pcs a pdats fg Rl p c).arraysAt (pin pcs a p).N
        ⊢ iprop(∃ A : (w : Fin (pin pcs a p).W) → Buf Val (((pin pcs a p).win w).arr.view.loc (c.tc : Thread nD τ)),
          ⌜∀ w, (rels pcs a pdats fg Rl p c).ArrAt w (pin pcs a p).N (A w)⌝ ∗ (pdats p c).arrays A)
      from arrays_chosen (rels pcs a pdats fg Rl p c) (pin pcs a p).N) $$ Ha
    icases Ha with ⟨%A, %hA, Ha⟩
    obtain ⟨γ', h1, h2⟩ := hV' c γ A hA
    have e : (StableHlo.held (c.tc : Thread nD τ) (Pipeline.ucRefs τ sig) (V' c γ') : sProp 𝕄)
        = iprop((pdats p c).arrays A ∗ StableHlo.held (c.tc : Thread nD τ) (Pipeline.ucRefs τ sig \ arrRefs (pcs p).spec) (V c γ)) := by
      rw [StableHlo.held_sub_split (c.tc : Thread nD τ) hsub (V' c γ'),
        ← Pipeline.arrays_held pcs a pdats p kit c (hshare c) A (V' c γ') h1,
        StableHlo.held_congr (c.tc : Thread nD τ) h2]
    imodintro
    isplitl [Ha Hr]
    · iexists γ'
      iapply (Entails.of_eq e.symm)
      isplitl [Ha]; · iexact Ha
      iexact Hr
    isplitl [Hp]; · iexact Hp
    unfold Dat.owesAt Pipeline.owesWithin
    rw [howed p c (Fin.last _)]
    icases HO with ⟨%Wd, -, HO⟩; iexists Wd; iexact HO

end Cert.Hand

end
-- ==== Proof.KI.Call0.lean ====
/-
  The first kernel call, one grid point at a time: what the body leaves in the running minimum, in the squared norms of the
  embedding and, at the last point, in the output block.
-/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body is at the first grid point. -/
abbrev atFirst (i : grid0.Coords) : Prop := Scalar.cmpi .ne (Scalar.extui (Scalar.cmpi .eq (BitVec.ofNat 32 (i 0).val) 0#32)) 0#32 = 1#1
/-- The body is at the last grid point. -/
abbrev atLast (i : grid0.Coords) : Prop := k0_cond2 i = 1#1

/-- The first block's condition holds at point 0 alone. -/
theorem atFirst_iff (t : Fin cfg0.N) : atFirst (grid0.coords t) ↔ t.val = 0 := by
  have ht : t.val < 25 := Nat.lt_of_lt_of_eq t.isLt N_0
  have e0 : (grid0.coords t 0).val = t.val / 1 % 25 := Pipeline.Grid.coords_val t 0 (by decide) rfl
  have : t.val = 0 ↔ t.val % 25 = 0 := by omega
  rw [this]
  simp only [atFirst, e0]
  word_cmp

/-- The last block's condition holds at point 24 alone. -/
theorem atLast_iff (t : Fin cfg0.N) : atLast (grid0.coords t) ↔ t.val = 24 := by
  have ht : t.val < 25 := Nat.lt_of_lt_of_eq t.isLt N_0
  have e0 : (grid0.coords t 0).val = t.val / 1 % 25 := Pipeline.Grid.coords_val t 0 (by decide) rfl
  have : t.val = 24 ↔ t.val % 25 = 24 := by omega
  rw [this]
  simp only [atLast, k0_cond2, e0]
  word_cmp

/-! ## The body's runs -/

section Runs

variable (c : Dev nD) (i : grid0.Coords)
  (a1 : Memref sig .tc .vmem S3136x384 .f32) (h1 : a1.IsWhole) (a2 : Memref sig .tc .vmem S2000x384 .f32) (h2 : a2.IsWhole)
  (a3 : Memref sig .tc .vmem S1x3136 .f32) (h3 : a3.IsWhole) (a4 : Memref sig .tc .vmem S1x3136 .f32) (h4 : a4.IsWhole)
  (a5 : Memref sig .tc .vmem S1x3136 .f32) (h5 : a5.IsWhole)
  (x0 : Vec F S3136x384 .f32) (x1 : Vec F S2000x384 .f32) (xo q en : Vec F S1x3136 .f32)

set_option maxHeartbeats 1000000 in
/-- At the first point the body starts the minimum at +∞, folds the block in, and keeps the embedding's squared norms. -/
theorem run_first (hf : atFirst i) (hl : ¬ atLast i) (E : Set ℕ) (K : PUnit → sProp 𝕄) :
    iprop(owns (c : Thread nD τ) a1 fullShare x0 ∗ owns (c : Thread nD τ) a2 fullShare x1 ∗ owns (c : Thread nD τ) a3 fullShare xo
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare xo
            ∗ owns (c : Thread nD τ) a4 fullShare (k0_pay3 x1 x0 k0_pay2) ∗ owns (c : Thread nD τ) a5 fullShare (k0_pay1 x0)) -∗ K ⟨⟩))
      ⊢ wp frame (wpE (defs₀ (F := F)) Variants.none c none) E (cc0__min_dist_kernel i a1 h1 a2 h2 a3 h3 a4 h4 a5 h5) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0 hf1 hf2
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    refine (View.read_writes_full ..).trans ?_
    repeat rw [View.readCov_full]
    repeat rw [View.readAt_full]
  iexists _; isplitr
  swap; · iexact H5
  ipureintro
  refine (View.read_writes_full ..).trans ?_
  repeat rw [View.readAt_full]

set_option maxHeartbeats 1000000 in
/-- At a point that is neither first nor last the body folds the block into the minimum and touches nothing else. -/
theorem run_mid (hf : ¬ atFirst i) (hl : ¬ atLast i) (E : Set ℕ) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare q ∗ owns (c : Thread nD τ) a5 fullShare en
        ∗ (iprop(owns (c : Thread nD τ) a1 fullShare x0 ∗ owns (c : Thread nD τ) a2 fullShare x1 ∗ owns (c : Thread nD τ) a3 fullShare xo
            ∗ owns (c : Thread nD τ) a4 fullShare (k0_pay3 x1 x0 q) ∗ owns (c : Thread nD τ) a5 fullShare en) -∗ K ⟨⟩))
      ⊢ wp frame (wpE (defs₀ (F := F)) Variants.none c none) E (cc0__min_dist_kernel i a1 h1 a2 h2 a3 h3 a4 h4 a5 h5) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0 hf1 hf2 hf4 hf5
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    refine (View.read_writes_full ..).trans ?_
    repeat rw [View.readCov_full]
    repeat rw [View.readAt_full]
  iexists f5; isplitr; · ipureintro; rfl
  iexact H5

set_option maxHeartbeats 1000000 in
/-- At the last point the body folds the block in and stores the distances. -/
theorem run_last (hf : ¬ atFirst i) (hl : atLast i) (E : Set ℕ) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare q ∗ owns (c : Thread nD τ) a5 fullShare en
        ∗ (iprop(owns (c : Thread nD τ) a1 fullShare x0 ∗ owns (c : Thread nD τ) a2 fullShare x1
            ∗ owns (c : Thread nD τ) a3 fullShare (k0_pay4 en (k0_pay3 x1 x0 q))
            ∗ owns (c : Thread nD τ) a4 fullShare (k0_pay3 x1 x0 q) ∗ owns (c : Thread nD τ) a5 fullShare en) -∗ K ⟨⟩))
      ⊢ wp frame (wpE (defs₀ (F := F)) Variants.none c none) E (cc0__min_dist_kernel i a1 h1 a2 h2 a3 h3 a4 h4 a5 h5) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0 hf1 hf2 hf4 hf5
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (View.read_writes_full ..).trans ?_
    repeat rw [View.readCov_full]
    repeat rw [View.readAt_full]
  isplitl [H4]
  · iexists _; isplitr
    swap; · iexact H4
    ipureintro
    sl_unfold_words
    refine (View.read_writes_full ..).trans ?_
    repeat rw [View.readCov_full]
    repeat rw [View.readAt_full]
  iexists f5; isplitr; · ipureintro; rfl
  iexact H5

end Runs

/-! ## Which points store the output block -/

/-- Before the last point the body leaves the output window alone. -/
theorem idle_early : ∀ t : Fin cfg0.N, ¬ atLast (grid0.coords t) → cfg0.idle 2 (grid0.coords t) = true := by decide +kernel
/-- Before the last point the output window is not copied out. -/
theorem noFlush_early : ∀ t : Fin cfg0.N, ¬ atLast (grid0.coords t) → (cfg0.win 2).flush t = false := by decide +kernel
/-- At the last point the body stores the output window. -/
theorem live_last : ∀ t : Fin cfg0.N, atLast (grid0.coords t) → cfg0.idle 2 (grid0.coords t) = false := by decide +kernel

/-! ## The call's data -/

variable (V : Dev nD → Valuation τ sig (Elt F))

/-- The block of window `w` at point `t`, of the arrays as the call finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
def first0 : Fin cfg0.N := ⟨0, by rw [show cfg0.N = 25 from N_0]; decide⟩

/-- The embedding's squared norms: kept by the first point. -/
def norms (c : Dev nD) : Vec F S1x3136 .f32 := k0_pay1 (blk0 V c 0 first0)

/-- The running minimum before point `n`: +∞, then folded with a block at each point. -/
def acc0 (c : Dev nD) : ℕ → Vec F S1x3136 .f32
  | 0 => k0_pay2
  | n + 1 => if h : n < cfg0.N then k0_pay3 (blk0 V c 1 ⟨n, h⟩) (blk0 V c 0 first0) (acc0 c n) else acc0 c n

/-- The running minimum after a point, from the one before it and the point's block. -/
theorem acc0_succ (c : Dev nD) (t : Fin cfg0.N) :
    acc0 V c (t.val + 1) = k0_pay3 (blk0 V c 1 t) (blk0 V c 0 first0) (acc0 V c t.val) := dif_pos t.isLt

/-- What the call leaves in its output: the distances. -/
def dist0 (c : Dev nD) : Vec F S1x3136 .f32 := k0_pay4 (norms V c) (acc0 V c 25)

/-- A core's scoped buffer at some contents. -/
abbrev someBuf (c : Dev nD) (r : Ref sig .tc) : sProp 𝕄 := iprop(∃ f : Buf (Elt F) ((c : Thread nD τ).loc r), ((c : Thread nD τ).loc r) ↦{fullShare} f)

/-- The scoped buffers the call does not use. -/
def rest0 (c : Dev nD) : sProp 𝕄 :=
  iprop(someBuf c cc1_stg0_0 ∗ someBuf c cc1_stg1_0 ∗ someBuf c cc1_stg1_1 ∗ someBuf c cc1_stg2_0 ∗ someBuf c cc1_scratch0
    ∗ someBuf c cc2_stg0_0 ∗ someBuf c cc2_stg1_0 ∗ someBuf c cc2_stg1_1 ∗ someBuf c cc2_stg2_0 ∗ someBuf c cc2_stg2_1)

/-- The scratch buffer of the running minimum. -/
abbrev runMin : Memref sig .tc .vmem S1x3136 .f32 := Memref.whole cc0_scratch0
/-- The scratch buffer of the patches' squared norms. -/
abbrev keptNorms : Memref sig .tc .vmem S1x3136 .f32 := Memref.whole cc0_scratch1

/-- What the call owns beside its windows: its two scratch buffers, the other calls' buffers and the generator's register. -/
theorem scoped0_eq (c : Dev nD) :
    (Pipeline.ΦA (Val := Elt F) spec0 c : sProp 𝕄)
      = iprop(((∃ d, owns (c : Thread nD τ) runMin fullShare d) ∗ (∃ d, owns (c : Thread nD τ) keptNorms fullShare d) ∗ rest0 c) ∗ (∃ r, prngReg c r)) := by
  unfold Pipeline.ΦA rest0; rw [scopedRest0_eq]; simp only [runMin, keptNorms, owns_whole]; try rfl

/-- The state between points. -/
def inv0 (c : Dev nD) : ℕ → sProp 𝕄
  | 0 => Pipeline.ΦA spec0 c
  | n + 1 => iprop((owns (c : Thread nD τ) runMin fullShare (acc0 V c (n + 1)) ∗ owns (c : Thread nD τ) keptNorms fullShare (norms V c) ∗ rest0 c)
      ∗ (∃ r, prngReg c r))

/-- The state before any point but the first: the scratch buffers hold the running minimum and the norms. -/
theorem inv0_pos (c : Dev nD) (n : ℕ) (h : n ≠ 0) :
    inv0 V c n = iprop((owns (c : Thread nD τ) runMin fullShare (acc0 V c n) ∗ owns (c : Thread nD τ) keptNorms fullShare (norms V c) ∗ rest0 c)
      ∗ (∃ r, prngReg c r)) := by
  cases n with
  | zero => exact absurd rfl h
  | succ n => rfl

/-- The call's proof data over the arrays it finds. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => dist0 V c
  Φ t := inv0 V c t.val
  q _ := fullShare
  owed _ := 0

/-- After a point the embedding's window holds its block. -/
theorem dat0_after_0 (c : Dev nD) (t : Fin cfg0.N) : (dat0 V c).after 0 t = blk0 V c 0 t := by dsimp only [dat0]
/-- After a point the memory bank's window holds the point's block. -/
theorem dat0_after_1 (c : Dev nD) (t : Fin cfg0.N) : (dat0 V c).after 1 t = blk0 V c 1 t := by dsimp only [dat0]
/-- The output window is to hold the distances. -/
theorem dat0_after_2 (c : Dev nD) (t : Fin cfg0.N) : (dat0 V c).after 2 t = dist0 V c := by dsimp only [dat0]

/-- Before a point the embedding's window holds its block. -/
theorem dat0_before_0 (c : Dev nD) (t : Fin cfg0.N) (d) : (dat0 V c).before 0 t d = blk0 V c 0 t :=
  ((dat0 V c).before_in_eq_fetched 0 rfl (fun _ => rfl) (fun _ _ _ => rfl) (fun t => by rw [dat0_after_0]; rfl) t d).trans rfl
/-- Before a point the memory bank's window holds the point's block. -/
theorem dat0_before_1 (c : Dev nD) (t : Fin cfg0.N) (d) : (dat0 V c).before 1 t d = blk0 V c 1 t :=
  ((dat0 V c).before_in_eq_fetched 1 rfl (fun _ => rfl) (fun _ _ _ => rfl) (fun t => by rw [dat0_after_1]; rfl) t d).trans rfl

/-- The embedding's window is the same block at every point. -/
theorem blk0_const (c : Dev nD) (t : Fin cfg0.N) : blk0 V c 0 t = blk0 V c 0 first0 := rfl

/-! ## The body obligation -/

set_option maxHeartbeats 4000000 in
/-- The body at any point carries the state on, and at the last point leaves the distances in the output block. -/
theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t)) := by
  unfold bodyAt0
  simp only [dat0_before_0, dat0_before_1]
  rw [show (dat0 V c).owesAt () t.succ = (dat0 V c).owesAt () t.castSucc from rfl,
    show (dat0 V c).Φ t.succ = inv0 V c (t.val + 1) from rfl, show (dat0 V c).Φ t.castSucc = inv0 V c t.val from rfl,
    inv0_pos V c (t.val + 1) (Nat.succ_ne_zero _), acc0_succ,
    show (dat0 V c).leavesExact 0 t = owns (c : Thread nD τ) (st0_0 t) fullShare (blk0 V c 0 t) from by
      unfold Dat.leavesExact; rw [show cfg0.idle 0 (cfg0.grid.coords t) = false from rfl, dat0_after_0],
    show (dat0 V c).leavesExact 1 t = owns (c : Thread nD τ) (st0_1 t) fullShare (blk0 V c 1 t) from by
      unfold Dat.leavesExact; rw [show cfg0.idle 1 (cfg0.grid.coords t) = false from rfl, dat0_after_1],
    blk0_const V c t]
  have hN : t.val < 25 := lt_of_lt_of_eq t.isLt (show cfg0.N = 25 from N_0)
  by_cases hl : t.val = 24
  · have hz : t.val ≠ 0 := by omega
    rw [show (dat0 V c).leavesExact 2 t = owns (c : Thread nD τ) (st0_2 t) fullShare (dist0 V c) from by
      unfold Dat.leavesExact; rw [live_last t ((atLast_iff t).mpr hl), dat0_after_2],
      inv0_pos V c t.val hz,
      show dist0 V c = k0_pay4 (norms V c) (k0_pay3 (blk0 V c 1 t) (blk0 V c 0 first0) (acc0 V c t.val)) from by
        rw [← acc0_succ, hl]; rfl]
    iintro ⟨⟨⟨HS0, HS1, HR⟩, Hg⟩, Ho, ⟨%d0, H0⟩, ⟨%d1, H1⟩, ⟨%d2, H2⟩⟩
    iapply (run_last c (grid0.coords t) _ _ _ _ _ _ _ _ _ _ (blk0 V c 0 first0) (blk0 V c 1 t) _ (acc0 V c t.val) (norms V c)
      (fun h => hz ((atFirst_iff t).mp h)) ((atLast_iff t).mpr hl) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    iexact H2
  · have hnl : ¬ atLast (grid0.coords t) := fun h => hl ((atLast_iff t).mp h)
    rw [Dat.leavesExact_idle (dat0 V c) 2 t (idle_early t hnl) (noFlush_early t hnl)]
    by_cases hz : t.val = 0
    · have e0 : inv0 V c t.val = Pipeline.ΦA spec0 c := by rw [hz]; rfl
      rw [e0, scoped0_eq, show acc0 V c t.val = k0_pay2 from by rw [hz]; rfl]
      iintro ⟨⟨⟨HS0, HS1, HR⟩, Hg⟩, Ho, ⟨%d0, H0⟩, ⟨%d1, H1⟩, ⟨%d2, H2⟩⟩
      iapply (run_first c (grid0.coords t) _ _ _ _ _ _ _ _ _ _ (blk0 V c 0 first0) (blk0 V c 1 t) _
        ((atFirst_iff t).mpr hz) hnl Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [inv0_pos V c t.val hz]
      iintro ⟨⟨⟨HS0, HS1, HR⟩, Hg⟩, Ho, ⟨%d0, H0⟩, ⟨%d1, H1⟩, ⟨%d2, H2⟩⟩
      iapply (run_mid c (grid0.coords t) _ _ _ _ _ _ _ _ _ _ (blk0 V c 0 first0) (blk0 V c 1 t) _ (acc0 V c t.val) (norms V c)
        (fun h => hz ((atFirst_iff t).mp h)) hnl Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The body that the call runs at a point, on the point's windows. -/
theorem row0 (t : Fin cfg0.N) : defs₀ (F := F) .tc cfg0.body (cfg0.bodyArgs t (cfg0.slots t)) = bodyAt0 t := by
  unfold defs₀; rw [Defs.onTc_tc]

/-- The body obligation of the first call. -/
theorem body0 (c : Dev nD) : BodyObligation (dat0 V c) (defs₀ (F := F)) Variants.none () Set.univ := fun t => by
  rw [bigSep_W0, bigSep_W0, row0]
  exact triple_restated (sound0 V c t) rfl .rfl fun _ => .rfl

/-- After the last point the scoped buffers are at some contents again. -/
theorem out0 (c : Dev nD) : (dat0 V c).Φ (Fin.last cfg0.N) ⊢ Pipeline.ΦA spec0 c := by
  rw [show (dat0 V c).Φ (Fin.last cfg0.N) = inv0 V c cfg0.N from rfl, inv0_pos V c _ (by rw [show cfg0.N = 25 from N_0]; decide), scoped0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.KI.Call1.lean ====
/-
  The second kernel call, one grid point at a time. The last block of the bank sticks out of the array, so the rows of it that
  lie outside hold what they hold: what the scratch row may hold after a point is a relation, and the output is the score of
  some row so related.
-/
module

public import proofs.«01_k».proof.Proof.KI.Call0
public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.DatRel
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The condition of the body -/

/-- The body is at the last grid point. -/
abbrev atEnd (i : grid1.Coords) : Prop := k1_cond1 i = 1#1

/-- The last block's condition holds at point 6 alone. -/
theorem atEnd_iff (t : Fin cfg1.N) : atEnd (grid1.coords t) ↔ t.val = 6 := by
  have ht : t.val < 7 := Nat.lt_of_lt_of_eq t.isLt N_1
  have e0 : (grid1.coords t 0).val = t.val / 1 % 7 := Pipeline.Grid.coords_val t 0 (by decide) rfl
  have : t.val = 6 ↔ t.val % 7 = 6 := by omega
  rw [this]
  simp only [atEnd, k1_cond1, e0]
  word_cmp

/-! ## The score of a row of distances -/

/-- The score the last point computes of the operand row `x` and the row `s` of squared distances: the nine smallest
    entries, one after another, then the weight. -/
def score (x : Vec F S1x386 .f32) (s : Vec F S1x57344 .f32) : FVec F S1x1 .f32 :=
  let v1 := k1_pay1 x
  let v35 : IVec S1x57344 32 := iota .tc S1x57344 32 [1] iota_S1x57344_d1_w32
  let v33 := k1_pay4 v1
  let v63 := k1_pay9 s
  let v73 := k1_pay12 s
  let v111 := k1_pay19 v35 v63 v73
  let v119 := k1_pay22 v35 v63 v73
  k1_pay3 v33 (k1_pay7 v1 s) (k1_pay10 v1 s) (k1_pay14 v33 (k1_pay11 s)) (k1_pay17 v33 v35 v63 v73) (k1_pay20 v33 v35 v63 v73)
    (k1_pay24 v33 (k1_pay21 v35 v63 v73)) (k1_pay27 v33 v35 v111 v119 57344#32) (k1_pay29 v33 v35 v111 v119 57344#32)
    (k1_pay30 v35 v111 v119 57344#32)

/-- The row with the squared distances of one block stored at point `i`. -/
def stored (i : grid1.Coords) (x : Vec F S1x386 .f32) (b : Vec F S8192x384 .f32) (s : Vec F S1x57344 .f32) : Vec F S1x57344 .f32 :=
  VecWindow.put s (k1_off1 i) S1x8192.size (k1_pay2 i x b)

/-! ## The body's runs -/

section Runs

variable (c : Dev nD) (i : grid1.Coords)
  (a1 : Memref sig .tc .vmem S1x386 .f32) (h1 : a1.IsWhole) (a2 : Memref sig .tc .vmem S8192x384 .f32) (h2 : a2.IsWhole)
  (a3 : Memref sig .tc .vmem S1x1 .f32) (h3 : a3.IsWhole) (a4 : Memref sig .tc .vmem S1x57344 .f32) (h4 : a4.IsWhole)
  (x0 : Vec F S1x386 .f32) (x1 : Vec F S8192x384 .f32) (xo : Vec F S1x1 .f32) (s : Vec F S1x57344 .f32)

set_option maxHeartbeats 1000000 in
/-- Before the last point the body stores the block's squared distances and nothing else. -/
theorem run_store (hl : ¬ atEnd i) (E : Set ℕ) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare s
        ∗ (iprop(owns (c : Thread nD τ) a1 fullShare x0 ∗ owns (c : Thread nD τ) a2 fullShare x1 ∗ owns (c : Thread nD τ) a3 fullShare xo
            ∗ owns (c : Thread nD τ) a4 fullShare (stored i x0 x1 s)) -∗ K ⟨⟩))
      ⊢ wp frame (wpE (defs₀ (F := F)) Variants.none c none) E (cc1__top9_score_kernel i a1 h1 a2 h2 a3 h3 a4 h4) K := by
  simp only [cc1__top9_score_kernel_eq_skeleton]; unfold cc1__top9_score_kernel_skel
  unfold owns
  iintro ⟨⟨%f0, %hf0, H0⟩, ⟨%f1, %hf1, H1⟩, ⟨%f2, %hf2, H2⟩, ⟨%f4, %hf4, H4⟩, Hk⟩
  subst hf0 hf1 hf2 hf4
  sl_exec (disch := sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  sl_unfold_words
  refine (View.read_writes_cons_put _ _ _ _ _ rfl).trans ?_
  rw [View.readAt_full, View.readAt_full]
  rfl

set_option maxHeartbeats 4000000 in
/-- At the last point the body stores the block's squared distances and writes the score of the whole row. -/
theorem run_score (hl : atEnd i) (E : Set ℕ) (K : PUnit → sProp 𝕄) :
    iprop(owns (c : Thread nD τ) a1 fullShare x0 ∗ owns (c : Thread nD τ) a2 fullShare x1 ∗ owns (c : Thread nD τ) a3 fullShare xo
        ∗ owns (c : Thread nD τ) a4 fullShare s
        ∗ (iprop(owns (c : Thread nD τ) a1 fullShare x0 ∗ owns (c : Thread nD τ) a2 fullShare x1
            ∗ owns (c : Thread nD τ) a3 fullShare (score x0 (stored i x0 x1 s))
            ∗ owns (c : Thread nD τ) a4 fullShare (stored i x0 x1 s)) -∗ K ⟨⟩))
      ⊢ wp frame (wpE (defs₀ (F := F)) Variants.none c none) E (cc1__top9_score_kernel i a1 h1 a2 h2 a3 h3 a4 h4) K := by
  simp only [cc1__top9_score_kernel_eq_skeleton]; unfold cc1__top9_score_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f4, %hf4, H4⟩, Hk⟩
  subst hf0 hf1 hf2 hf4
  sl_exec (disch := sl_exact hl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full ..).trans ?_
    have e0 : View.readAt (Elt F) a1.view (Rect.unit (s := S1x386) ![0, 0] S1x386.size inb_S1x386_S1x386_0_0).toLoadRect f0
        = View.read (Elt F) a1.view f0 := View.readAt_full ..
    have e1 : View.readAt (Elt F) a2.view (Rect.unit (s := S8192x384) ![0, 0] S8192x384.size inb_S8192x384_S8192x384_0_0).toLoadRect f1
        = View.read (Elt F) a2.view f1 := View.readAt_full ..
    rw [← e0, ← e1]
    have e4 := (View.readAt_full a4.view (a4.view.writes (Elt F) f4 [⟨Rect.unit (s := S1x57344) (k1_off1 i) S1x8192.size (k1_off1_inb i),
        k1_pay2 i (View.readAt (Elt F) a1.view (Rect.unit (s := S1x386) ![0, 0] S1x386.size inb_S1x386_S1x386_0_0).toLoadRect f0)
          (View.readAt (Elt F) a2.view (Rect.unit (s := S8192x384) ![0, 0] S8192x384.size inb_S8192x384_S8192x384_0_0).toLoadRect f1)⟩])
        (off := ![0, 0]) inb_S1x57344_S1x57344_0_0).trans (View.read_writes_cons_put a4.view f4 (k1_off1_inb i) _ [] rfl)
    have e5 := congrArg (score (View.readAt (Elt F) a1.view (Rect.unit (s := S1x386) ![0, 0] S1x386.size inb_S1x386_S1x386_0_0).toLoadRect f0)) e4
    refine Eq.trans ?_ e5
    unfold score
    dsimp only
    rfl
  iexists _; isplitr
  swap; · iexact H4
  ipureintro
  sl_unfold_words
  refine (View.read_writes_cons_put _ _ _ _ _ rfl).trans ?_
  rw [View.readAt_full, View.readAt_full]
  rfl

end Runs

/-! ## The call's data -/

variable (V : Dev nD → Valuation τ sig (Elt F))

/-- The block of window `w` at point `t` (its part inside the array), of the arrays as the call finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
def start1 : Fin cfg1.N := ⟨0, by rw [show cfg1.N = 7 from N_1]; decide⟩

/-- The operand row: the chosen patch, and after it minus one twice. -/
def operand (c : Dev nD) : Vec F S1x386 .f32 := blk1 V c 0 start1

/-- What the scratch row may hold before point `n`: at the start anything; then the row with the squared distances of the
    point's block stored, of whatever lies in the rows outside the array. -/
def Reach (c : Dev nD) : ℕ → Vec F S1x57344 .f32 → Prop
  | 0, _ => True
  | n + 1, s => ∃ h : n < cfg1.N, ∃ s' d, Reach c n s'
      ∧ s = stored (grid1.coords ⟨n, h⟩) (operand V c) ((cfg1.win 1).fill (grid1.coords ⟨n, h⟩) d (blk1 V c 1 ⟨n, h⟩)) s'

/-- What the call may leave in its output. -/
def Score (c : Dev nD) (o : Vec F S1x1 .f32) : Prop := ∃ s, Reach V c 7 s ∧ o = score (operand V c) s

/-- The scoped buffers the call does not use: before its scratch row in the list, and after it. -/
def restA (c : Dev nD) : sProp 𝕄 :=
  iprop(someBuf c cc2_stg0_0 ∗ someBuf c cc2_stg1_0 ∗ someBuf c cc2_stg1_1 ∗ someBuf c cc2_stg2_0 ∗ someBuf c cc2_stg2_1)

/-- The scratch row, one column for each row of the padded memory bank. -/
abbrev row : Memref sig .tc .vmem S1x57344 .f32 := Memref.whole cc1_scratch0

/-- The scoped buffers around `P`, which stands for the scratch row. -/
def around (c : Dev nD) (P : sProp 𝕄) : sProp 𝕄 :=
  iprop((someBuf c cc0_stg0_0 ∗ someBuf c cc0_stg1_0 ∗ someBuf c cc0_stg1_1 ∗ someBuf c cc0_stg2_0 ∗ someBuf c cc0_scratch0
    ∗ someBuf c cc0_scratch1 ∗ P ∗ restA c) ∗ (∃ r, prngReg c r))

/-- What the call owns beside its windows: the scratch row among the other calls' buffers. -/
theorem scoped1_eq (c : Dev nD) :
    (Pipeline.ΦA (Val := Elt F) spec1 c : sProp 𝕄) = around c iprop(∃ d, owns (c : Thread nD τ) row fullShare d) := by
  unfold Pipeline.ΦA around restA; rw [scopedRest1_eq]; simp only [row, owns_whole]; try rfl

/-- The part that stands for the scratch row may be taken out and put back changed. -/
theorem around_swap (c : Dev nD) (P : sProp 𝕄) :
    around c P ⊢ iprop(P ∗ (∀ Q, Q -∗ around c Q)) := by
  unfold around
  iintro ⟨⟨H1, H2, H3, H4, H5, H6, HP, HR⟩, Hg⟩
  isplitl [HP]; · iexact HP
  iintro %Q HQ
  isplitr [Hg]
  · isplitl [H1]; · iexact H1
    isplitl [H2]; · iexact H2
    isplitl [H3]; · iexact H3
    isplitl [H4]; · iexact H4
    isplitl [H5]; · iexact H5
    isplitl [H6]; · iexact H6
    isplitl [HQ]; · iexact HQ
    iexact HR
  iexact Hg

/-- The state between points: the scratch row at contents it may hold. -/
def inv1 (c : Dev nD) (n : ℕ) : sProp 𝕄 :=
  around c iprop(∃ s, ⌜Reach V c n s⌝ ∗ owns (c : Thread nD τ) row fullShare s)

/-- The call's proof data over the arrays it finds. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => (cfg1.win 1).fill (grid1.coords t) (fun _ => FloatOps.ofBits .f32 0#32) (blk1 V c 1 t)
    | ⟨2, _⟩ => fun _ => FloatOps.ofBits .f32 0#32
  Φ t := inv1 V c t.val
  q _ := fullShare
  owed _ := 0

/-- Of the output window the data say which contents it may hold. -/
def marked1 : Fin cfg1.W → Bool := fun w => w == 2

/-- At the last point the output block holds a score. -/
def left1 (c : Dev nD) : (w : Fin cfg1.W) → Fin cfg1.N → ((cfg1.win w).block.Idx → Elt F (cfg1.win w).elt) → Prop
  | ⟨2, _⟩ => fun t X => t.val = 6 → Score V c X
  | _ => fun _ _ => True

/-- After a point the operand's window holds its block. -/
theorem dat1_after_0 (c : Dev nD) (t : Fin cfg1.N) : (dat1 V c).after 0 t = blk1 V c 0 t := by dsimp only [dat1]
/-- Before a point the operand's window holds its block. -/
theorem dat1_before_0 (c : Dev nD) (t : Fin cfg1.N) (d) : (dat1 V c).before 0 t d = blk1 V c 0 t :=
  ((dat1 V c).before_in_eq_fetched 0 rfl (fun _ => rfl) (fun _ _ _ => rfl) (fun t => by rw [dat1_after_0]; rfl) t d).trans rfl
/-- Before a point the memory bank's window holds the point's block, and what it held before where the block reaches past the bank. -/
theorem dat1_before_1 (c : Dev nD) (t : Fin cfg1.N) (d) :
    (dat1 V c).before 1 t d = (cfg1.win 1).fill (grid1.coords t) d (blk1 V c 1 t) := by
  unfold Dat.before; rw [if_pos (fetch1_1 t)]; rfl

/-- The part of the memory bank's window that lies in the bank holds the point's block. -/
theorem dat1_cut_1 (c : Dev nD) (t : Fin cfg1.N) :
    (cfg1.win 1).cut (grid1.coords t) ((dat1 V c).after 1 t) = blk1 V c 1 t := by
  dsimp only [dat1]
  exact (cfg1.win 1).cut_fill (grid1.coords t) _ (blk1 V c 1 t)

/-- The operand's window is the same block at every point. -/
theorem blk1_const (c : Dev nD) (t : Fin cfg1.N) : blk1 V c 0 t = operand V c := rfl

/-! ## The body obligation -/

set_option maxHeartbeats 4000000 in
/-- The body at any point carries the state on, and at the last point leaves a score in the output block. -/
theorem sound1 (c : Dev nD) (t : Fin cfg1.N) :
    iprop(inv1 V c t.val ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ Y, ⌜((dat1 V c).toRRel marked1 (left1 V c)).Finds 2 t Y⌝ ∗ owns (c : Thread nD τ) (st1_2 t) fullShare Y))
    ⊢ wp frame (wpE (defs₀ (F := F)) Variants.none c none) Set.univ (bodyAt1 t) (fun _ =>
      iprop(inv1 V c (t.val + 1) ∗ (dat1 V c).owesAt () t.castSucc
        ∗ owns (c : Thread nD τ) (st1_0 t) fullShare (blk1 V c 0 t)
        ∗ (∃ d, owns (c : Thread nD τ) (st1_1 t) fullShare ((cfg1.win 1).fill (grid1.coords t) d (blk1 V c 1 t)))
        ∗ (∃ X, ⌜t.val = 6 → Score V c X⌝ ∗ owns (c : Thread nD τ) (st1_2 t) fullShare X))) := by
  unfold bodyAt1 inv1
  simp only [dat1_before_0, dat1_before_1]
  rw [blk1_const V c t]
  have hN : t.val < 7 := lt_of_lt_of_eq t.isLt (show cfg1.N = 7 from N_1)
  have step : ∀ s d, Reach V c t.val s →
      Reach V c (t.val + 1) (stored (grid1.coords t) (operand V c) ((cfg1.win 1).fill (grid1.coords t) d (blk1 V c 1 t)) s) :=
    fun s d hs => ⟨t.isLt, s, d, hs, rfl⟩
  by_cases hl : t.val = 6
  · iintro ⟨HΦ, Ho, ⟨%d0, H0⟩, ⟨%d1, H1⟩, ⟨%Y, -, H2⟩⟩
    ihave HΦ' := (around_swap c _) $$ HΦ
    icases HΦ' with ⟨⟨%s, %hs, HS⟩, Hback⟩
    iapply (run_score c (grid1.coords t) _ _ _ _ _ _ _ _ (operand V c) ((cfg1.win 1).fill (grid1.coords t) d1 (blk1 V c 1 t)) _ s
      ((atEnd_iff t).mpr hl) Set.univ _)
    isplitl [H0]; · iexact H0
    isplitl [H1]; · iexact H1
    isplitl [H2]; · iexact H2
    isplitl [HS]; · iexact HS
    iintro ⟨H0, H1, H2, HS⟩
    isplitl [HS Hback]
    · iapply Hback
      iexists _; isplitr
      swap; · iexact HS
      ipureintro; exact step s d1 hs
    isplitl [Ho]; · iexact Ho
    isplitl [H0]; · iexact H0
    isplitl [H1]; · iexists _; iexact H1
    iexists _; isplitr
    swap; · iexact H2
    ipureintro
    intro _
    have := step s d1 hs
    rw [hl] at this
    exact ⟨_, this, rfl⟩
  · iintro ⟨HΦ, Ho, ⟨%d0, H0⟩, ⟨%d1, H1⟩, ⟨%Y, -, H2⟩⟩
    ihave HΦ' := (around_swap c _) $$ HΦ
    icases HΦ' with ⟨⟨%s, %hs, HS⟩, Hback⟩
    iapply (run_store c (grid1.coords t) _ _ _ _ _ _ _ _ (operand V c) ((cfg1.win 1).fill (grid1.coords t) d1 (blk1 V c 1 t)) _ s
      (fun h => hl ((atEnd_iff t).mp h)) Set.univ _)
    isplitl [H0]; · iexact H0
    isplitl [H1]; · iexact H1
    isplitl [H2]; · iexact H2
    isplitl [HS]; · iexact HS
    iintro ⟨H0, H1, H2, HS⟩
    isplitl [HS Hback]
    · iapply Hback
      iexists _; isplitr
      swap; · iexact HS
      ipureintro; exact step s d1 hs
    isplitl [Ho]; · iexact Ho
    isplitl [H0]; · iexact H0
    isplitl [H1]; · iexists _; iexact H1
    iexists _; isplitr
    swap; · iexact H2
    ipureintro
    exact fun h => absurd h hl

/-- The body that the call runs at a point, on the point's windows. -/
theorem row1 (t : Fin cfg1.N) : defs₀ (F := F) .tc cfg1.body (cfg1.bodyArgs t (cfg1.slots t)) = bodyAt1 t := by
  unfold defs₀; rw [Defs.onTc_tc]

/-- The body obligation of the second call. -/
theorem body1 (c : Dev nD) :
    Pipeline.BodyObligationRel (dat1 V c) (defs₀ (F := F)) Variants.none () Set.univ marked1 (left1 V c) := fun t => by
  rw [bigSep_W1, bigSep_W1, row1]
  have h := sound1 V c t
  rw [← dat1_cut_1 V c t, ← dat1_after_0 V c t] at h
  exact triple_restated h rfl .rfl fun _ => .rfl

/-- Before the first point the scratch row may hold anything. -/
theorem in1 (c : Dev nD) : Pipeline.ΦA spec1 c ⊢ (dat1 V c).Φ 0 := by
  rw [show (dat1 V c).Φ 0 = inv1 V c 0 from rfl, scoped1_eq, inv1]
  iintro H
  ihave H' := (around_swap c _) $$ H
  icases H' with ⟨⟨%s, HS⟩, Hback⟩
  iapply Hback
  iexists s; isplitr
  · ipureintro; trivial
  iexact HS

/-- After the last point the scratch row is at some contents again. -/
theorem out1 (c : Dev nD) : (dat1 V c).Φ (Fin.last cfg1.N) ⊢ Pipeline.ΦA spec1 c := by
  rw [show (dat1 V c).Φ (Fin.last cfg1.N) = inv1 V c cfg1.N from rfl, scoped1_eq, inv1]
  iintro H
  ihave H' := (around_swap c _) $$ H
  icases H' with ⟨⟨%s, -, HS⟩, Hback⟩
  iapply Hback
  iexists s; iexact HS

end Cert.KernelIdeal.Hand

end
-- ==== Proof.KI.Call2.lean ====
/-
  The third kernel call, one grid point at a time: each point writes one image of the blurred map.
-/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run -/

section Runs

variable (c : Dev nD) (i : grid2.Coords)
  (a1 : Memref sig .tc .vmem S224x28 .f32) (h1 : a1.IsWhole) (a2 : Memref sig .tc .vmem S1x28x28 .f32) (h2 : a2.IsWhole)
  (a3 : Memref sig .tc .vmem S1x1x224x224 .f32) (h3 : a3.IsWhole)
  (x0 : Vec F S224x28 .f32) (x1 : Vec F S1x28x28 .f32) (xo : Vec F S1x1x224x224 .f32)

set_option maxHeartbeats 1000000 in
/-- The body stores the blurred image. -/
theorem run_blur (E : Set ℕ) (K : PUnit → sProp 𝕄) :
    iprop(owns (c : Thread nD τ) a1 fullShare x0 ∗ owns (c : Thread nD τ) a2 fullShare x1 ∗ owns (c : Thread nD τ) a3 fullShare xo
        ∗ (iprop(owns (c : Thread nD τ) a1 fullShare x0 ∗ owns (c : Thread nD τ) a2 fullShare x1
            ∗ owns (c : Thread nD τ) a3 fullShare (k2_pay1 x0 x1)) -∗ K ⟨⟩))
      ⊢ wp frame (wpE (defs₀ (F := F)) Variants.none c none) E (cc2__blur_kernel i a1 h1 a2 h2 a3 h3) K := by
  simp only [cc2__blur_kernel_eq_skeleton]; unfold cc2__blur_kernel_skel
  unfold owns
  iintro ⟨⟨%f0, %hf0, H0⟩, ⟨%f1, %hf1, H1⟩, ⟨%f2, %hf2, H2⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (View.read_writes_full ..).trans ?_
  rw [View.readAt_full, View.readAt_full]

end Runs

/-! ## The call's data -/

variable (V : Dev nD → Valuation τ sig (Elt F))

/-- The block of window `w` at point `t`, of the arrays as the call finds them. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's proof data over the arrays it finds. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay1 (blk2 V c 0 t) (blk2 V c 1 t)
  Φ _ := Pipeline.ΦA spec2 c
  q _ := fullShare
  owed _ := 0

/-- After a point the matrix's window holds its block. -/
theorem dat2_after_0 (c : Dev nD) (t : Fin cfg2.N) : (dat2 V c).after 0 t = blk2 V c 0 t := by dsimp only [dat2]
/-- After a point the map's window holds the point's block. -/
theorem dat2_after_1 (c : Dev nD) (t : Fin cfg2.N) : (dat2 V c).after 1 t = blk2 V c 1 t := by dsimp only [dat2]
/-- After a point the output window holds the blurred map of the point's image. -/
theorem dat2_after_2 (c : Dev nD) (t : Fin cfg2.N) : (dat2 V c).after 2 t = k2_pay1 (blk2 V c 0 t) (blk2 V c 1 t) := by dsimp only [dat2]

/-- Before a point the matrix's window holds its block. -/
theorem dat2_before_0 (c : Dev nD) (t : Fin cfg2.N) (d) : (dat2 V c).before 0 t d = blk2 V c 0 t :=
  ((dat2 V c).before_in_eq_fetched 0 rfl (fun _ => rfl) (fun _ _ _ => rfl) (fun t => by rw [dat2_after_0]; rfl) t d).trans rfl
/-- Before a point the map's window holds the point's block. -/
theorem dat2_before_1 (c : Dev nD) (t : Fin cfg2.N) (d) : (dat2 V c).before 1 t d = blk2 V c 1 t :=
  ((dat2 V c).before_in_eq_fetched 1 rfl (fun _ => rfl) (fun _ _ _ => rfl) (fun t => by rw [dat2_after_1]; rfl) t d).trans rfl

/-! ## The body obligation -/

set_option maxHeartbeats 1000000 in
/-- The body at any point leaves the blurred image in the output block. -/
theorem sound2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  unfold bodyAt2
  simp only [dat2_before_0, dat2_before_1]
  rw [show (dat2 V c).owesAt () t.succ = (dat2 V c).owesAt () t.castSucc from rfl,
    show (dat2 V c).Φ t.succ = (dat2 V c).Φ t.castSucc from rfl,
    show (dat2 V c).leavesExact 0 t = owns (c : Thread nD τ) (st2_0 t) fullShare (blk2 V c 0 t) from by
      unfold Dat.leavesExact; rw [show cfg2.idle 0 (cfg2.grid.coords t) = false from rfl, dat2_after_0],
    show (dat2 V c).leavesExact 1 t = owns (c : Thread nD τ) (st2_1 t) fullShare (blk2 V c 1 t) from by
      unfold Dat.leavesExact; rw [show cfg2.idle 1 (cfg2.grid.coords t) = false from rfl, dat2_after_1],
    show (dat2 V c).leavesExact 2 t = owns (c : Thread nD τ) (st2_2 t) fullShare (k2_pay1 (blk2 V c 0 t) (blk2 V c 1 t)) from by
      unfold Dat.leavesExact; rw [show cfg2.idle 2 (cfg2.grid.coords t) = false from rfl, dat2_after_2]]
  iintro ⟨HP, Ho, ⟨%d0, H0⟩, ⟨%d1, H1⟩, ⟨%d2, H2⟩⟩
  iapply (run_blur c (grid2.coords t) _ _ _ _ _ _ (blk2 V c 0 t) (blk2 V c 1 t) _ Set.univ _)
  isplitl [H0]; · iexact H0
  isplitl [H1]; · iexact H1
  isplitl [H2]; · iexact H2
  iintro ⟨H0, H1, H2⟩
  isplitl [HP]; · iexact HP
  isplitl [Ho]; · iexact Ho
  isplitl [H0]; · iexact H0
  isplitl [H1]; · iexact H1
  iexact H2

/-- The body that the call runs at a point, on the point's windows. -/
theorem row2 (t : Fin cfg2.N) : defs₀ (F := F) .tc cfg2.body (cfg2.bodyArgs t (cfg2.slots t)) = bodyAt2 t := by
  unfold defs₀; rw [Defs.onTc_tc]

/-- The body obligation of the third call. -/
theorem body2 (c : Dev nD) : BodyObligation (dat2 V c) (defs₀ (F := F)) Variants.none () Set.univ := fun t => by
  rw [bigSep_W2, bigSep_W2, row2]
  exact triple_restated (sound2 V c t) rfl .rfl fun _ => .rfl

end Cert.KernelIdeal.Hand

end
-- ==== Proof.KI.Run.lean ====
/-
  The whole program: the three kernel calls and the host operations between them, chained into one run.

  The first and the third call are determinate. What the second call leaves in its output is known up to the relation of its
  module, because its last block reads past the end of its operand; the run's statement binds a witness for it.
-/
module

public import proofs.«01_k».proof.Proof.HeldRegion
public import proofs.«01_k».proof.Proof.KI.Call0
public import proofs.«01_k».proof.Proof.KI.Call1
public import proofs.«01_k».proof.Proof.KI.Call2

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the calls leave -/

/-- The contents the three calls leave, as the valuations between the items take them. -/
def outsOf (o0 : (c : Dev nD) → Buf (Elt F) ((c : Thread nD τ).loc main_v0)) (o1 : (c : Dev nD) → Buf (Elt F) ((c : Thread nD τ).loc main_v9))
    (o2 : (c : Dev nD) → Buf (Elt F) ((c : Thread nD τ).loc main_v43)) : Outs (F := F) := fun j r c =>
  match j with
  | 1 => Function.update (V0 m c) main_v0 (o0 c) r
  | 5 => Function.update (V0 m c) main_v9 (o1 c) r
  | _ => Function.update (V0 m c) main_v43 (o2 c) r

section OutsOf

variable (o0 : (c : Dev nD) → Buf (Elt F) ((c : Thread nD τ).loc main_v0)) (o1 : (c : Dev nD) → Buf (Elt F) ((c : Thread nD τ).loc main_v9))
    (o2 : (c : Dev nD) → Buf (Elt F) ((c : Thread nD τ).loc main_v43)) (c : Dev nD)

/-- The first call's entry in the table of outputs. -/
theorem outsOf_0 : outsOf m o0 o1 o2 1 main_v0 c = o0 c := by
  show Function.update (V0 m c) (main_v0 : DevRef τ sig) (o0 c) (main_v0 : DevRef τ sig) = o0 c
  exact Function.update_self _ _ _
/-- The second call's entry in the table of outputs. -/
theorem outsOf_1 : outsOf m o0 o1 o2 5 main_v9 c = o1 c := by
  show Function.update (V0 m c) (main_v9 : DevRef τ sig) (o1 c) (main_v9 : DevRef τ sig) = o1 c
  exact Function.update_self _ _ _
/-- The third call's entry in the table of outputs. -/
theorem outsOf_2 : outsOf m o0 o1 o2 13 main_v43 c = o2 c := by
  show Function.update (V0 m c) (main_v43 : DevRef τ sig) (o2 c) (main_v43 : DevRef τ sig) = o2 c
  exact Function.update_self _ _ _

end OutsOf

/-- The first call's output array at the end. -/
def nearest (c : Dev nD) : Buf (Elt F) ((c : Thread nD τ).loc main_v0) := (dat0 (V0 m) c).arrAt 2 cfg0.N

/-- The contents before the second call is known. -/
def outsA : Outs (F := F) := outsOf m (nearest m) (fun c => V0 m c main_v9) (fun c => V0 m c main_v43)

/-- The third call's output array at the end. -/
def blurred (c : Dev nD) : Buf (Elt F) ((c : Thread nD τ).loc main_v43) := (dat2 (V12 m (outsA m)) c).arrAt 2 cfg2.N

/-- The proof data of the three calls. -/
def pdats : (p : Fin 3) → (c : Dev nD) → Dat τ (Elt F) Unit ℕ (UR sig nD τ) ℕ (Pipeline.pin (pcfgs (F := F)) adm p) c
  | 0 => dat0 (V0 m)
  | 1 => dat1 (V4 m (outsA m))
  | 2 => dat2 (V12 m (outsA m))

/-- Only the second call's output is known up to a relation. -/
def fgs : (p : Fin 3) → Fin (Pipeline.pin (pcfgs (F := F)) adm p).W → Bool
  | 0 => fun _ => false
  | 1 => marked1
  | 2 => fun _ => false

/-- That relation. -/
def lefts : (p : Fin 3) → (c : Dev nD) → (w : Fin (Pipeline.pin (pcfgs (F := F)) adm p).W) → Fin (Pipeline.pin (pcfgs (F := F)) adm p).N →
    (((Pipeline.pin (pcfgs (F := F)) adm p).win w).block.Idx → Elt F ((Pipeline.pin (pcfgs (F := F)) adm p).win w).elt) → Prop
  | 0 => fun _ _ _ _ => True
  | 1 => left1 (V4 m (outsA m))
  | 2 => fun _ _ _ _ => True

/-- What the second call may leave in its output array. -/
abbrev Found (c : Dev nD) : Type :=
  {G : Buf (Elt F) ((c : Thread nD τ).loc main_v9) // ((dat1 (V4 m (outsA m)) c).toRRel marked1 (left1 (V4 m (outsA m)) c)).ArrAt 2 cfg1.N G}

/-- The contents the calls leave, given what the second call left. -/
def outsB (c : Dev nD) (γ : Found m c) : Outs (F := F) := outsOf m (nearest m) (fun _ => γ.1) (blurred m)

/-! ## The valuations around the second call -/

/-- What stands before the second call does not depend on what that call finds. -/
theorem V4_AB (c : Dev nD) (γ : Found m c) : V4 m (outsB m c γ) c = V4 m (outsA m) c := by
  unfold V4 V3 V2 V1
  rw [show outsB m c γ 1 main_v0 c = outsA m 1 main_v0 c from (outsOf_0 ..).trans (outsOf_0 ..).symm]

/-- No host operation between the second and the third call touches the second call's output. -/
theorem V12_AB (c : Dev nD) (γ : Found m c) : ∀ d, d ≠ (main_v9 : DevRef τ sig) → V12 m (outsB m c γ) c d = V12 m (outsA m) c d := by
  have h5 : ∀ d, d ≠ (main_v9 : DevRef τ sig) → V5 m (outsB m c γ) c d = V5 m (outsA m) c d := fun d hd => by
    unfold V5
    rw [Function.update_of_ne hd, Function.update_of_ne hd, V4_AB]
  unfold V12 V11 V10 V9 V8 V7 V6
  refine after_agree_off _ _ ?_ _ _ <| after_agree_off _ _ ?_ _ _ <| after_agree_off _ _ ?_ _ _ <| after_agree_off _ _ ?_ _ _ <|
    after_agree_off _ _ ?_ _ _ <| after_agree_off _ _ ?_ _ _ <| after_agree_off _ _ ?_ _ _ h5
  all_goals
    refine List.forall_iff_forall_mem.mp ?_
    simp only [List.Forall, StableHlo.TRef.nullary, StableHlo.TRef.unary, StableHlo.TRef.binary, StableHlo.TRef.ternary,
      StableHlo.TRef.of, StableHlo.nullary_bufs, StableHlo.unary_bufs, StableHlo.binary_bufs, StableHlo.ternary_bufs,
      StableHlo.reshape_bufs, Finset.mem_insert, Finset.mem_singleton, not_or]
    repeat' apply And.intro
    all_goals exact StableHlo.devRef_ne_of_ne (by decide)

/-! ## The three calls as parts of the program -/

/-- No semaphore carries a token. -/
abbrev L₀ : GSem nD τ sig → Finset Unit := fun _ => ∅
/-- So every level is zero. -/
abbrev lv₀ : GSem nD τ sig → Unit → ℕ := fun _ _ => 0

/-- No call owes a semaphore anything. -/
theorem owed_zero : ∀ q c t, (pdats m q c).owed t = 0
  | 0, _, _ => rfl
  | 1, _, _ => rfl
  | 2, _, _ => rfl

/-- A buffer outside the arrays is no window's array. -/
theorem off_arrays {gr W : ℕ} (win : Fin W → Pipeline.WinSpec sig gr) {d : DevRef τ sig} {S : Finset (DevRef τ sig)}
    (hd : d ∈ S \ Pipeline.arrRefs (τ := τ) win) (w : Fin W) : d ≠ ((Pipeline.arrRef win w : Ref sig .tc) : DevRef τ sig) := fun e =>
  (Finset.mem_sdiff.mp hd).2 (e ▸ Finset.mem_map.mpr ⟨_, Finset.mem_image.mpr ⟨w, Finset.mem_univ _, rfl⟩, rfl⟩)

/-- After the first call its output holds the distances. -/
theorem V1_self (c : Dev nD) : V1 m (outsA m) c main_v0 = nearest m c := by
  unfold V1; rw [Function.update_self]; exact outsOf_0 ..
/-- After the second call its output holds the score found. -/
theorem V5_self (c : Dev nD) (γ : Found m c) : V5 m (outsB m c γ) c main_v9 = γ.1 := by
  unfold V5; rw [Function.update_self]; exact outsOf_1 ..
/-- After the third call its output holds the blurred map. -/
theorem V13_self (c : Dev nD) (γ : Found m c) : V13 m (outsB m c γ) c main_v43 = blurred m c := by
  unfold V13; rw [Function.update_self]; exact outsOf_2 ..
/-- The first call changes no other array. -/
theorem V1_off (c : Dev nD) (d : DevRef τ sig) (h : d ≠ (main_v0 : DevRef τ sig)) : V1 m (outsA m) c d = V0 m c d :=
  Function.update_of_ne h _ _
/-- The second call changes no other array. -/
theorem V5_off (c : Dev nD) (γ : Found m c) (d : DevRef τ sig) (h : d ≠ (main_v9 : DevRef τ sig)) :
    V5 m (outsB m c γ) c d = V4 m (outsA m) c d := (Function.update_of_ne h _ _).trans (congrFun (V4_AB m c γ) d)
/-- The third call changes no other array. -/
theorem V13_off (c : Dev nD) (γ : Found m c) (d : DevRef τ sig) (h : d ≠ (main_v43 : DevRef τ sig)) :
    V13 m (outsB m c γ) c d = V12 m (outsB m c γ) c d := Function.update_of_ne h _ _

/-- What the first call leaves in each of its arrays. -/
theorem exit0 (c : Dev nD) : ∀ w : Fin cfg0.W, (dat0 (V0 m) c).arrAt w cfg0.N = V1 m (outsA m) c (Pipeline.arrRef spec0 w)
  | ⟨0, _⟩ => ((dat0 (V0 m) c).arrAt_in 0 rfl _).trans (V1_off m c main_arg0 (StableHlo.devRef_ne_of_ne (by decide))).symm
  | ⟨1, _⟩ => ((dat0 (V0 m) c).arrAt_in 1 rfl _).trans (V1_off m c main_arg1 (StableHlo.devRef_ne_of_ne (by decide))).symm
  | ⟨2, _⟩ => (V1_self m c).symm

/-- The score is no array of the third call. -/
theorem arr2_ne : ∀ w : Fin 3, Pipeline.arrRef spec2 w ≠ main_v9 := by decide

/-- The third call's windows start from the arrays it finds. -/
theorem dat2_A (V : Dev nD → Valuation τ sig (Elt F)) (c : Dev nD) (w : Fin cfg2.W) : (dat2 V c).A w = V c (Pipeline.arrRef spec2 w) := by
  dsimp only [dat2]

/-- What the third call finds in each of its arrays. -/
theorem entry2 (c : Dev nD) (γ : Found m c) (w : Fin cfg2.W) :
    (dat2 (V12 m (outsA m)) c).A w = V12 m (outsB m c γ) c (Pipeline.arrRef spec2 w) :=
  (dat2_A _ c w).trans (V12_AB m c γ _ (StableHlo.devRef_ne_of_ne (arr2_ne w))).symm

/-- What the third call leaves in each of its arrays. -/
theorem exit2 (c : Dev nD) (γ : Found m c) :
    ∀ w : Fin cfg2.W, (dat2 (V12 m (outsA m)) c).arrAt w cfg2.N = V13 m (outsB m c γ) c (Pipeline.arrRef spec2 w)
  | ⟨0, _⟩ => ((dat2 (V12 m (outsA m)) c).arrAt_in 0 rfl _).trans
      ((entry2 m c γ 0).trans (V13_off m c γ main_v42 (StableHlo.devRef_ne_of_ne (by decide))).symm)
  | ⟨1, _⟩ => ((dat2 (V12 m (outsA m)) c).arrAt_in 1 rfl _).trans
      ((entry2 m c γ 1).trans (V13_off m c γ main_v10 (StableHlo.devRef_ne_of_ne (by decide))).symm)
  | ⟨2, _⟩ => (V13_self m c γ).symm

/-- The second call's proof data, read relationally. -/
abbrev rel1 (c : Dev nD) : RDat τ (Elt F) Unit ℕ (UR sig nD τ) ℕ cfg1 c :=
  (dat1 (V4 m (outsA m)) c).toRRel marked1 (left1 (V4 m (outsA m)) c)

/-- What the second call leaves in each of its arrays. -/
theorem exit1 (c : Dev nD) (A : (w : Fin cfg1.W) → Buf (Elt F) ((cfg1.win w).arr.view.loc (c : Thread nD τ)))
    (hA : ∀ w, (rel1 m c).ArrAt w cfg1.N (A w)) : ∀ w, A w = V5 m (outsB m c ⟨A 2, hA 2⟩) c (Pipeline.arrRef spec1 w)
  | ⟨0, _⟩ => (show A 0 = V4 m (outsA m) c main_v8 from by
      have h := hA 0
      rw [RDat.ArrAt_in _ 0 rfl] at h
      exact h).trans (V5_off m c ⟨A 2, hA 2⟩ main_v8 (StableHlo.devRef_ne_of_ne (by decide))).symm
  | ⟨1, _⟩ => (show A 1 = V4 m (outsA m) c main_arg1 from by
      have h := hA 1
      rw [RDat.ArrAt_in _ 1 rfl] at h
      exact h).trans (V5_off m c ⟨A 2, hA 2⟩ main_arg1 (StableHlo.devRef_ne_of_ne (by decide))).symm
  | ⟨2, _⟩ => (V5_self m c ⟨A 2, hA 2⟩).symm

set_option backward.isDefEq.respectTransparency.types false in
/-- The first call. -/
def reg0 : RDat.RegionSeg (pcfgs (F := F)) adm (rels (pcfgs (F := F)) adm (pdats m) fgs (lefts m)) () defs₀ Variants.none L₀ lv₀ 0 :=
  heldRegion (pcfgs (F := F)) adm (pdats m) fgs (lefts m) 0 defs₀ L₀ lv₀ (Γ := fun _ => Unit) (Γ' := fun _ => Unit)
    (fun c _ => V0 m c) (fun c _ => V1 m (outsA m) c) launch0.toP rfl
    (fun c => (body0 (V0 m) c).loose.toR) (owed_zero m) (fun _ => rfl)
    (fun c => (dat0 (V0 m) c).share_full fun _ => rfl) (fun c => .rfl) (fun c => out0 (V0 m) c)
    (fun c _ w => rfl)
    (fun c _ A hA => ⟨(), fun w => ((dat0 (V0 m) c).toR_arrAt w cfg0.N (A w) (hA w)).trans (exit0 m c w),
      fun d hd => V1_off m c d (off_arrays spec0 hd 2)⟩)

set_option backward.isDefEq.respectTransparency.types false in
/-- The second call. -/
def reg1 : RDat.RegionSeg (pcfgs (F := F)) adm (rels (pcfgs (F := F)) adm (pdats m) fgs (lefts m)) () defs₀ Variants.none L₀ lv₀ 1 :=
  heldRegion (pcfgs (F := F)) adm (pdats m) fgs (lefts m) 1 defs₀ L₀ lv₀ (Γ := fun _ => Unit) (Γ' := Found m)
    (fun c _ => V4 m (outsA m) c) (fun c γ => V5 m (outsB m c γ) c) launch1.toP rfl
    (fun c => (body1 (V4 m (outsA m)) c).toRRel) (owed_zero m) (fun _ => rfl)
    (fun c => (dat1 (V4 m (outsA m)) c).share_full fun _ => rfl) (fun c => in1 (V4 m (outsA m)) c) (fun c => out1 (V4 m (outsA m)) c)
    (fun c _ w => rfl)
    (fun c _ A hA => ⟨⟨A 2, hA 2⟩, exit1 m c A hA, fun d hd => V5_off m c ⟨A 2, hA 2⟩ d (off_arrays spec1 hd 2)⟩)

set_option backward.isDefEq.respectTransparency.types false in
/-- The third call. -/
def reg2 : RDat.RegionSeg (pcfgs (F := F)) adm (rels (pcfgs (F := F)) adm (pdats m) fgs (lefts m)) () defs₀ Variants.none L₀ lv₀ 2 :=
  heldRegion (pcfgs (F := F)) adm (pdats m) fgs (lefts m) 2 defs₀ L₀ lv₀ (Γ := Found m) (Γ' := Found m)
    (fun c γ => V12 m (outsB m c γ) c) (fun c γ => V13 m (outsB m c γ) c) launch2.toP rfl
    (fun c => (body2 (V12 m (outsA m)) c).loose.toR) (owed_zero m) (fun _ => rfl)
    (fun c => (dat2 (V12 m (outsA m)) c).share_full fun _ => rfl) (fun c => .rfl) (fun c => .rfl)
    (fun c γ w => entry2 m c γ w)
    (fun c γ A hA => ⟨γ, fun w => ((dat2 (V12 m (outsA m)) c).toR_arrAt w cfg2.N (A w) (hA w)).trans (exit2 m c γ w),
      fun d hd => V13_off m c γ d (off_arrays spec2 hd 2)⟩)

/-! ## The host operations between the calls -/

/-- A line of host operations from a valuation that a witness gives. -/
abbrev line {Γ : Dev nD → Type} (ops : List (HloOp τ sig (Elt F))) (hs : ops.Forall fun op => op.bufs ⊆ StableHlo.tcRefs τ sig)
    (hf : ops.Forall fun op => op.fresh = ∅) (V : (c : Dev nD) → Γ c → Valuation τ sig (Elt F)) :
    Pipeline.HostSeg (Ix := Unit) (Name := ℕ) (U := UR sig nD τ) (Lvl := ℕ) (pcfgs (F := F)) defs₀ Variants.none L₀ lv₀ :=
  Pipeline.HostSeg.ofOpsEx _ _ _ _ _ (Pipeline.ucRefs τ sig) ops
    (fun op h => Pipeline.sub_ucRefs op ((List.forall_iff_forall_mem.mp hs) op h))
    (fun op h => (List.forall_iff_forall_mem.mp hf) op h) V (fun c => beside c)

/-- The program's items, in order. -/
abbrev items (c : Dev nD) : List (RDat.Seg (pcfgs (F := F)) adm (rels (pcfgs (F := F)) adm (pdats m) fgs (lefts m)) () defs₀ Variants.none L₀ lv₀) :=
  [ .region (reg0 m),
    .host (line (Γ := fun _ => Unit) hostOps1 hostOps1_sub hostOps1_fresh fun c _ => V1 m (outsA m) c),
    .host (line (Γ := fun _ => Unit) hostOps1_1 hostOps1_1_sub hostOps1_1_fresh fun c _ => V2 m (outsA m) c),
    .host (line (Γ := fun _ => Unit) hostOps1_2 hostOps1_2_sub hostOps1_2_fresh fun c _ => V3 m (outsA m) c),
    .region (reg1 m),
    .host (line (Γ := Found m) hostOps2 hostOps2_sub hostOps2_fresh fun c γ => V5 m (outsB m c γ) c),
    .host (line (Γ := Found m) hostOps2_1 hostOps2_1_sub hostOps2_1_fresh fun c γ => V6 m (outsB m c γ) c),
    .host (line (Γ := Found m) hostOps2_2 hostOps2_2_sub hostOps2_2_fresh fun c γ => V7 m (outsB m c γ) c),
    .host (line (Γ := Found m) hostOps2_3 hostOps2_3_sub hostOps2_3_fresh fun c γ => V8 m (outsB m c γ) c),
    .host (line (Γ := Found m) hostOps2_4 hostOps2_4_sub hostOps2_4_fresh fun c γ => V9 m (outsB m c γ) c),
    .host (line (Γ := Found m) hostOps2_5 hostOps2_5_sub hostOps2_5_fresh fun c γ => V10 m (outsB m c γ) c),
    .host (line (Γ := Found m) hostOps2_6 hostOps2_6_sub hostOps2_6_fresh fun c γ => V11 m (outsB m c γ) c),
    .region (reg2 m),
    .host (line (Γ := Found m) hostOps3 hostOps3_sub hostOps3_fresh fun c γ => V13 m (outsB m c γ) c) ]

/-! ## The run -/

/-- The final memory: the two results are what the last valuation holds, for some contents that the second call may have left,
    and the arguments are as at the start. -/
def Ends (c : Dev nD) (s : MemSt nD τ sig (Elt F)) : Prop :=
  (∃ γ : Found m c, s.mem ((c : Thread nD τ).loc main_v43) = V14 m (outsB m c γ) c main_v43
      ∧ s.mem ((c : Thread nD τ).loc main_v44) = V14 m (outsB m c γ) c main_v44)
    ∧ s.mem ((c : Thread nD τ).loc main_arg0) = m ((c : Thread nD τ).loc main_arg0)
    ∧ s.mem ((c : Thread nD τ).loc main_arg1) = m ((c : Thread nD τ).loc main_arg1)

/-- A buffer that lives through the whole program is one of those the run keeps. -/
theorem mem_unscoped (r : Ref sig .tc) (h : ¬ (r : DevRef τ sig).isScoped) : (r : DevRef τ sig) ∈ Pipeline.ucRefs τ sig :=
  Finset.mem_filter.mpr ⟨StableHlo.devRef_mem_tcRefs r, h⟩

set_option backward.isDefEq.respectTransparency.types false in
/-- From any memory whose semaphore counters are zero every execution terminates without a fault, in a memory as `Ends` says, every
    semaphore counter at zero. -/
theorem run (ρ : Dev nD → PrngReg) :
    θ_run defs (onTc (τ := τ) (main (F := F))) ⟨m, fun _ => 0, ρ⟩ (fun r => (∀ c, Ends m c r.2) ∧ r.2.sem = fun _ => 0) := by
  refine RDat.θ_run_regions_kit_dev_sems (pcfgs (F := F)) adm (rels (pcfgs (F := F)) adm (pdats m) fgs (lefts m)) () cellOf_inj emb₁
    defs₀ Variants.none L₀ lv₀ m ρ main (items m)
    (fun c Q => by
      rewrite [main_chain c, RDat.Seg.run_eq_chain,
        show (items m c).map RDat.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := heldAt (Γ := fun _ => Unit) fun c _ => V0 m c)
    (Tₙ := fun c => iprop(∃ γ : Found m c, StableHlo.held (c : Thread nD τ) (Pipeline.ucRefs τ sig) (V14 m (outsB m c γ) c)))
    (hch := fun c => ⟨.rfl, .rfl, .rfl, .rfl, .rfl, .rfl, .rfl, .rfl, .rfl, .rfl, .rfl, .rfl, .rfl, .rfl, ?_⟩)
    (hinit := ?_) (QY := Ends m) (hfin := fun c s' => ?_)
    (hQ := fun _ h hz => ⟨h, funext fun g => hz g (.inr (regions_no_unscoped g.2))⟩)
  · show iprop((∃ γ : Found m c, StableHlo.held (c : Thread nD τ) (Pipeline.ucRefs τ sig) (V14 m (outsB m c γ) c)) ∗ beside c)
      ⊢ iprop((∃ γ : Found m c, StableHlo.held (c : Thread nD τ) (Pipeline.ucRefs τ sig) (V14 m (outsB m c γ) c))
        ∗ ∃ W, owes (c : Thread nD τ) (0 : CellTallies nD τ sig Unit) W)
    iintro ⟨Hh, -, HO⟩
    isplitl [Hh]; · iexact Hh
    iexact HO
  · refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexists (); iexact Hh
    isplitl [Hp]; · iexists _; iexact Hp
    iexists ∅; iexact HO
  · unfold StableHlo.held
    iintro ⟨⟨%γ, Hh⟩, HSI⟩
    ihave Hr := (pointsTo_read_all (Pipeline.ucRefs τ sig) (fun b => ((c : Thread nD τ).1, b)) (V14 m (outsB m c γ) c) s') $$ [Hh HSI]
    · isplitl [Hh] <;> iassumption
    icases Hr with ⟨%h, HSI⟩
    imodintro
    isplitr
    · ipureintro
      exact ⟨⟨γ, h main_v43 (mem_unscoped main_v43 (by decide)), h main_v44 (mem_unscoped main_v44 (by decide))⟩,
        (h main_arg0 (mem_unscoped main_arg0 (by decide))).trans (V14_main_arg0 m (outsB m c γ) c),
        (h main_arg1 (mem_unscoped main_arg1 (by decide))).trans (V14_main_arg1 m (outsB m c γ) c)⟩
    · iexact HSI

end Cert.KernelIdeal.Hand

end
-- ==== Proof.Frames.lean ====
/-
  The frames of the kernel, in the print at floats' bits and in the print over the extended reals.

  The two prints of the kernel are the same program, word for word, and both are stated at any instance of the floats. So the one
  run of `KI/Run.lean`, taken at the instance of bits, is the run of the first print as well.
-/
module

public import proofs.«01_k».proof.Defs
public import proofs.«01_k».proof.Proof.KI.Run
public import proofs.«01_k».proof.Proof.Gen.Kernel
public import proofs.«01_k».proof.Proof.Gen.Kernel.Launch

@[expose] public section

set_option maxRecDepth 100000

noncomputable section

namespace Cert.Hand

open Idealize.ShloMosaic Idealize.SL.Sem

variable {F : FTy → Type} [FloatOps F]

/-- The kernel over the extended reals terminates, leaves its arguments and returns every semaphore counter to zero. -/
theorem frame_ideal : Cert.quiescent_KernelIdeal (hKernelIdeal := Cert.KernelIdeal.Gen.facts) := fun m g _ =>
  (θ_run _ _ _).mono (fun r h => ⟨fun c => (h.1 c).2, h.2⟩) (Cert.KernelIdeal.Hand.run (F := Ideal) m g)

/-- The kernels' bodies of the two prints, label by label. -/
theorem bodies_eq : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀))
    (funext fun ℓ => funext fun a => ?_)
  match ℓ, a with
  | ⟨0, _⟩, (t, s) => rfl
  | ⟨1, _⟩, (t, s) => rfl
  | ⟨2, _⟩, (t, s) => rfl

/-- The two prints' definitions, the pipelines' own among them. -/
theorem defs_eq : Cert.Kernel.defs (F := F) = Cert.KernelIdeal.defs (F := F) := congrArg (Pipeline.defs (Cert.Kernel.pcfgs (F := F))) bodies_eq

set_option maxHeartbeats 0 in
/-- The two prints' host programs. -/
theorem main_eq : Cert.Kernel.main (F := F) = Cert.KernelIdeal.main (F := F) := rfl

set_option maxHeartbeats 0 in
/-- The kernel at floats' bits terminates, leaves its arguments and returns every semaphore counter to zero. -/
theorem frame_bits : Cert.quiescent_Kernel (hKernel := Cert.Kernel.Gen.facts) := fun m g _ => by
  rw [defs_eq, main_eq]
  exact (θ_run _ _ _).mono (fun r h => ⟨fun c => (h.1 c).2, h.2⟩) (Cert.KernelIdeal.Hand.run (F := Bits) m g)

end Cert.Hand

end
-- ==== Proof.Val.Reals.lean ====
/-
  Facts of extended-real arithmetic used by the value proof: the two ways of writing a squared distance agree, the map from
  half a squared distance to the distance is monotone, and finite sums of nonnegative factors may be rearranged.
-/
module

public import Idealize.ShloMosaic.Lib.Pointwise

@[expose] public section

namespace Cert.Reals

open Idealize.ShloMosaic

/-- The pattern of `2.0` denotes two. -/
theorem two_f32 : Ideal.ofBits .f32 0x40000000#32 = ((2 : ℝ) : EReal) := by
  simp [Ideal.ofBits, Ideal.ieee, -EReal.coe_mul]; norm_num

/-- The pattern of `0.5` denotes one half. -/
theorem half_f32 : Ideal.ofBits .f32 0x3F000000#32 = ((1 / 2 : ℝ) : EReal) := by
  simp [Ideal.ofBits, Ideal.ieee, -EReal.coe_mul]; norm_num

/-- The pattern of `+∞` denotes the greatest extended real. -/
theorem inf_f32 : Ideal.ofBits .f32 0x7F800000#32 = ⊤ := by
  simp [Ideal.ofBits, Ideal.ieee]

/-- The distance floor is positive. -/
theorem floor_pos : ∃ e : ℝ, 0 < e ∧ Ideal.ofBits .f32 0x2B8CBCCC#32 = (e : EReal) := by
  refine ⟨_, ?_, by simp [Ideal.ofBits, Ideal.ieee]; rfl⟩
  norm_num

/-- A square is nonnegative. -/
theorem sq_nonneg' (x : EReal) : 0 ≤ x * x := by
  induction x with
  | bot => simp
  | top => simp
  | coe r => exact_mod_cast mul_self_nonneg r

/-- `en + 2 (½ wn − p) = (en + wn) − 2 p` for nonnegative `en` and `wn`, whatever `p` is. -/
theorem dist_sq (en wn p : EReal) (he : 0 ≤ en) (hw : 0 ≤ wn) :
    en + ((2 : ℝ) : EReal) * (((1 / 2 : ℝ) : EReal) * wn - p) = en + wn - ((2 : ℝ) : EReal) * p := by
  have two_pos : (0 : ℝ) < 2 := by norm_num
  have half_pos : (0 : ℝ) < 1 / 2 := by norm_num
  have hp : (0 : EReal) ≤ ((1 / 2 : ℝ) : EReal) * wn := mul_nonneg (by exact_mod_cast half_pos.le) hw
  have ne_bot : ∀ x : EReal, 0 ≤ x → x ≠ ⊥ := fun x hx h => by simp [h] at hx
  induction p with
  | top => simp only [EReal.sub_top, EReal.coe_mul_bot_of_pos two_pos, EReal.coe_mul_top_of_pos two_pos, EReal.add_bot]
  | bot =>
    rw [EReal.coe_mul_bot_of_pos two_pos, EReal.sub_bot (ne_bot _ hp), EReal.sub_bot (ne_bot _ (add_nonneg he hw)),
      EReal.coe_mul_top_of_pos two_pos, EReal.add_top_of_ne_bot (ne_bot _ he)]
  | coe p =>
    have hr : ∀ r : ℝ, ((2 : ℝ) : EReal) * (r : EReal) = ((2 * r : ℝ) : EReal) := fun r => (EReal.coe_mul _ _).symm
    induction wn with
    | bot => exact absurd hw (by simp)
    | top =>
      rw [EReal.coe_mul_top_of_pos half_pos, EReal.top_sub_coe, EReal.coe_mul_top_of_pos two_pos, EReal.add_top_of_ne_bot (ne_bot _ he), hr,
        EReal.top_sub_coe]
    | coe w =>
      rw [← EReal.coe_mul, ← EReal.coe_sub, hr, hr]
      induction en with
      | bot => exact absurd he (by simp)
      | top => rw [EReal.top_add_coe, EReal.top_add_coe, EReal.top_sub_coe]
      | coe e =>
        rw [← EReal.coe_add, ← EReal.coe_add, ← EReal.coe_sub]
        exact congrArg _ (by ring)

/-- The distance from half the squared distance less the row's own share: monotone. -/
theorem sqrt_mono {x y : EReal} (hx : 0 ≤ x) (h : x ≤ y) : Ideal.sqrt x ≤ Ideal.sqrt y := by
  induction y with
  | bot => exact absurd (hx.trans h) (by simp)
  | top => simp
  | coe b =>
    induction x with
    | bot => exact absurd hx (by simp)
    | top => exact absurd h (by simp)
    | coe a =>
      have ha : 0 ≤ a := by exact_mod_cast hx
      have hab : a ≤ b := by exact_mod_cast h
      rw [Ideal.sqrt_coe, Ideal.sqrt_coe, if_neg (not_lt.2 ha), if_neg (not_lt.2 (ha.trans hab))]
      exact_mod_cast Real.sqrt_le_sqrt hab

/-- The root of a nonnegative number is nonnegative. -/
theorem sqrt_nonneg {x : EReal} (hx : 0 ≤ x) : 0 ≤ Ideal.sqrt x := by
  induction x with
  | bot => exact absurd hx (by simp)
  | top => simp
  | coe a =>
    have ha : 0 ≤ a := by exact_mod_cast hx
    rw [Ideal.sqrt_coe, if_neg (not_lt.2 ha)]
    exact_mod_cast Real.sqrt_nonneg a

/-- An exponential is nonnegative. -/
theorem exp_nonneg (x : EReal) : 0 ≤ Ideal.exp x := by
  induction x with
  | bot => simp
  | top => simp
  | coe a => rw [Ideal.exp_coe]; exact_mod_cast (Real.exp_pos a).le

/-- An exponential of a real number is positive. -/
theorem exp_pos (r : ℝ) : 0 < Ideal.exp (r : EReal) := by
  rw [Ideal.exp_coe]
  exact_mod_cast Real.exp_pos r

/-- A quotient of a nonnegative number by a positive one is nonnegative. -/
theorem div_nonneg {x y : EReal} (hx : 0 ≤ x) (hy : 0 < y) : 0 ≤ Ideal.div x y := by
  rw [Ideal.div, if_neg hy.ne']
  exact mul_nonneg hx (EReal.inv_nonneg_of_nonneg hy.le)

/-- A nonnegative factor goes into a finite sum of nonnegative terms. -/
theorem mul_sum {ι : Type*} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-- The same, the factor on the right. -/
theorem sum_mul {ι : Type*} (s : Finset ι) (a : EReal) (f : ι → EReal) (hf : ∀ i, 0 ≤ f i) : (∑ i ∈ s, f i) * a = ∑ i ∈ s, f i * a := by
  rw [mul_comm, mul_sum s a f hf]
  exact Finset.sum_congr rfl fun i _ => mul_comm _ _

/-- The pattern of `16.0` denotes sixteen. -/
theorem sixteen_f32 : Ideal.ofBits .f32 0x41800000#32 = ((16 : ℝ) : EReal) := by
  simp [Ideal.ofBits, Ideal.ieee, -EReal.coe_mul]; norm_num

/-- The pattern of `32.0` denotes thirty-two. -/
theorem thirtytwo_f32 : Ideal.ofBits .f32 0x42000000#32 = ((32 : ℝ) : EReal) := by
  simp [Ideal.ofBits, Ideal.ieee, -EReal.coe_mul]; norm_num

/-- Two products with the spread weights are the two passes of the weights over the positions they come from. -/
theorem blur_sum {κ ι : Type*} [Fintype κ] [Fintype ι] [DecidableEq ι] (g : κ → EReal) (hg : ∀ k, 0 ≤ g k) (P : ι → ι → EReal)
    (hP : ∀ y x, 0 ≤ P y x) (a c : κ → ι) :
    ∑ x, (∑ y, (∑ k, if a k = y then g k else 0) * P y x) * (∑ k, if c k = x then g k else 0)
      = ∑ k', g k' * ∑ k, g k * P (a k) (c k') := by
  have h0 : ∀ (d : κ → ι) (x : ι) (k : κ), 0 ≤ (if d k = x then g k else 0) := fun d x k => by
    split_ifs
    · exact hg k
    · exact le_rfl
  have hrow : ∀ x, ∑ y, (∑ k, if a k = y then g k else 0) * P y x = ∑ k, g k * P (a k) x := fun x => by
    rw [Finset.sum_congr rfl fun y _ => sum_mul Finset.univ (P y x) (fun k => if a k = y then g k else 0) (h0 a y), Finset.sum_comm]
    exact Finset.sum_congr rfl fun k _ => by simp only [ite_mul, zero_mul, Finset.sum_ite_eq, Finset.mem_univ, if_true]
  simp only [hrow]
  rw [Finset.sum_congr rfl fun x _ => mul_sum Finset.univ (∑ k, g k * P (a k) x) (fun k => if c k = x then g k else 0) (h0 c x), Finset.sum_comm]
  exact Finset.sum_congr rfl fun k _ => by
    simp only [mul_ite, mul_zero, Finset.sum_ite_eq, Finset.mem_univ, if_true]
    exact mul_comm _ _

end Cert.Reals
-- ==== Proof.Val.Dist.lean ====
/-
  The first call's values on the extended reals: its three payloads at an index, the running minimum after the last block, and
  the distance of every patch to its nearest row of the memory bank.
-/
module

public import proofs.«01_k».proof.Proof.KI.Call0
public import proofs.«01_k».proof.Proof.Val.Reals
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Idealize.SL.Sem

/-! ## The payloads at an index -/

/-- The first payload: the squared norms of the embedding's rows. -/
theorem pay1_apply (E : Vec Ideal S3136x384 .f32) (n : Fin 3136) :
    k0_pay1 (F := Ideal) E (ix2 0 n) = ∑ k : Fin 384, E (ix2 n k) * E (ix2 n k) := by
  pointwise [k0_pay1]

/-- The second payload: the greatest extended real everywhere. -/
theorem pay2_apply (n : Fin 3136) : k0_pay2 (F := Ideal) (ix2 0 n) = ⊤ := by
  pointwise [k0_pay2]
  exact Cert.Reals.inf_f32

/-- The third payload: the running minimum, folded with half the squared norm less the product of each row of the block. -/
theorem pay3_apply (W : Vec Ideal S2000x384 .f32) (E : Vec Ideal S3136x384 .f32) (q : Vec Ideal S1x3136 .f32) (n : Fin 3136) :
    k0_pay3 (F := Ideal) W E q (ix2 0 n)
      = min (q (ix2 0 n)) (Finset.fold min ⊤ (fun j : Fin 2000 =>
          ((1 / 2 : ℝ) : EReal) * (∑ k : Fin 384, W (ix2 j k) * W (ix2 j k)) - ∑ k : Fin 384, W (ix2 j k) * E (ix2 n k)) Finset.univ) := by
  pointwise [k0_pay3, multiReduction_minimumf_eq_reduceFold, Shape.Reduces.fold_fiber_r2_a0]
  rw [Cert.Reals.inf_f32, Cert.Reals.half_f32]

/-- The fourth payload: the root of the squared distance, floored. -/
theorem pay4_apply (en q : Vec Ideal S1x3136 .f32) (n : Fin 3136) :
    k0_pay4 (F := Ideal) en q (ix2 0 n)
      = Ideal.sqrt (max (en (ix2 0 n) + ((2 : ℝ) : EReal) * q (ix2 0 n)) (Ideal.ofBits .f32 0x2B8CBCCC#32)) := by
  pointwise [k0_pay4]
  rw [Cert.Reals.two_f32]

/-! ## Distances of a patch to the rows of the memory bank -/

section Dist

variable (E : Vec Ideal S3136x384 .f32) (W : Vec Ideal S50000x384 .f32) (n : Fin 3136)

/-- The squared norm of a patch. -/
def normE : EReal := ∑ k : Fin 384, E (ix2 n k) * E (ix2 n k)

/-- The squared norm of a row of the memory bank. -/
def normW (j : Fin 50000) : EReal := ∑ k : Fin 384, W (ix2 j k) * W (ix2 j k)

/-- The product of a patch with a row of the memory bank. -/
def prod (j : Fin 50000) : EReal := ∑ k : Fin 384, E (ix2 n k) * W (ix2 j k)

/-- What the first call minimizes over the rows. -/
def half (j : Fin 50000) : EReal := ((1 / 2 : ℝ) : EReal) * normW W j - prod E W n j

/-- The distance of a patch to a row, as the reference writes it. -/
def dist (j : Fin 50000) : EReal :=
  Ideal.sqrt (max (normE E n + normW W j - ((2 : ℝ) : EReal) * prod E W n j) (Ideal.ofBits .f32 0x2B8CBCCC#32))

/-- The distance from what the first call minimizes. -/
def distOf (x : EReal) : EReal := Ideal.sqrt (max (normE E n + ((2 : ℝ) : EReal) * x) (Ideal.ofBits .f32 0x2B8CBCCC#32))

/-- A patch's squared norm is nonnegative. -/
theorem normE_nonneg : 0 ≤ normE E n := Finset.sum_nonneg fun k _ => Cert.Reals.sq_nonneg' _

/-- A bank row's squared norm is nonnegative. -/
theorem normW_nonneg (j : Fin 50000) : 0 ≤ normW W j := Finset.sum_nonneg fun k _ => Cert.Reals.sq_nonneg' _

/-- Of the half norm less the product it gives the distance to the row. -/
theorem distOf_half (j : Fin 50000) : distOf E n (half E W n j) = dist E W n j := by
  unfold distOf half dist
  rw [Cert.Reals.dist_sq _ _ _ (normE_nonneg E n) (normW_nonneg W j)]

/-- A smaller value gives no greater distance. -/
theorem distOf_mono {x y : EReal} (h : x ≤ y) : distOf E n x ≤ distOf E n y := by
  obtain ⟨e, he, hb⟩ := Cert.Reals.floor_pos
  refine Cert.Reals.sqrt_mono (le_max_of_le_right ?_) (max_le_max_right _ (add_le_add_right (mul_le_mul_of_nonneg_left h ?_) _))
  · rw [hb]; exact_mod_cast he.le
  · exact_mod_cast (by norm_num : (0 : ℝ) ≤ 2)

/-- A distance is nonnegative. -/
theorem dist_nonneg (j : Fin 50000) : 0 ≤ dist E W n j := by
  obtain ⟨e, he, hb⟩ := Cert.Reals.floor_pos
  refine Cert.Reals.sqrt_nonneg (le_max_of_le_right ?_)
  rw [hb]; exact_mod_cast he.le

/-- The number `x` is the distance of patch `n` to its nearest row. -/
def Nearest (x : EReal) : Prop := (∃ j, x = dist E W n j) ∧ ∀ j, x ≤ dist E W n j

/-- There is one nearest distance. -/
theorem Nearest.unique {x y : EReal} (hx : Nearest E W n x) (hy : Nearest E W n y) : x = y := by
  obtain ⟨⟨i, hi⟩, hx⟩ := hx
  obtain ⟨⟨j, hj⟩, hy⟩ := hy
  exact le_antisymm (hj ▸ hx j) (hi ▸ hy i)

/-- The nearest distance is nonnegative. -/
theorem Nearest.nonneg {x : EReal} (hx : Nearest E W n x) : 0 ≤ x := by
  obtain ⟨⟨i, hi⟩, -⟩ := hx
  exact hi ▸ dist_nonneg E W n i

end Dist

/-! ## The running minimum -/

section Call

variable (V : Dev nD → Valuation τ sig (Elt Ideal)) (c : Dev nD)

/-- The embedding the call finds. -/
abbrev arrE : Vec Ideal S3136x384 .f32 := V c main_arg0

/-- The memory bank the call finds. -/
abbrev arrW : Vec Ideal S50000x384 .f32 := V c main_arg1

/-- The embedding's block is the same at every point. -/
theorem index0_0 : ∀ t : Fin cfg0.N, win0_0.index t = ![0, 0] := (by decide +kernel : ∀ t : Fin grid0.N, _)
/-- The memory bank's block at a point has the point's number. -/
theorem index0_1 : ∀ t : Fin cfg0.N, win0_1.index t = ![t.val, 0] := (by decide +kernel : ∀ t : Fin grid0.N, _)

/-- The embedding's block is the embedding. -/
theorem blk0_E (t : Fin cfg0.N) (n : Fin 3136) (k : Fin 384) :
    blk0 V c 0 t (ix2 n k) = arrE V c (ix2 n k) := by
  blk_simp [blk0]
  refine congrArg (arrE V c) ?_
  blk_ext [index0_0]

/-- The memory bank's block at a point is its next two thousand rows. -/
theorem blk0_W (t : Fin cfg0.N) (j : Fin 2000) (k : Fin 384) (h : 2000 * t.val + j.val < 50000) :
    blk0 V c 1 t (ix2 j k) = arrW V c (ix2 ⟨2000 * t.val + j.val, h⟩ k) := by
  blk_simp [blk0]
  refine congrArg (arrW V c) ?_
  blk_ext [index0_1]

/-- There are 25 points. -/
theorem lt_25 (t : Fin cfg0.N) : t.val < 25 := Nat.lt_of_lt_of_eq t.isLt N_0

/-- The fold of a block at patch `n`. -/
theorem acc0_step (t : Fin cfg0.N) (n : Fin 3136) :
    acc0 V c (t.val + 1) (ix2 0 n) = min (acc0 V c t.val (ix2 0 n)) (Finset.fold min ⊤ (fun j : Fin 2000 =>
      half (arrE V c) (arrW V c) n ⟨2000 * t.val + j.val, by have := lt_25 t; omega⟩) Finset.univ) := by
  rw [acc0_succ, pay3_apply]
  refine congrArg (min _) (Finset.fold_congr fun j _ => ?_)
  have h : 2000 * t.val + j.val < 50000 := by have := lt_25 t; omega
  unfold half normW prod
  refine congrArg₂ (· - ·) (congrArg (_ * ·) (Finset.sum_congr rfl fun k _ => ?_)) (Finset.sum_congr rfl fun k _ => ?_)
  · rw [blk0_W V c t j k h]
  · rw [blk0_W V c t j k h, blk0_E]
    exact mul_comm _ _

/-- The running minimum after `b` blocks: below every row seen, and one of them unless none was below `⊤`. -/
theorem acc0_spec (n : Fin 3136) : ∀ b : ℕ, b ≤ 25 →
    (∀ j : Fin 50000, j.val < 2000 * b → acc0 V c b (ix2 0 n) ≤ half (arrE V c) (arrW V c) n j)
      ∧ (acc0 V c b (ix2 0 n) = ⊤ ∨ ∃ j, acc0 V c b (ix2 0 n) = half (arrE V c) (arrW V c) n j)
  | 0, _ => ⟨fun j hj => absurd hj (by omega), .inl (pay2_apply n)⟩
  | b + 1, hb => by
    obtain ⟨low, att⟩ := acc0_spec n b (by omega)
    have e := acc0_step V c ⟨b, by rw [show cfg0.N = 25 from N_0]; omega⟩ n
    rw [show acc0 V c (b + 1) (ix2 0 n) = _ from e]
    constructor
    · intro j hj
      by_cases hj' : j.val < 2000 * b
      · exact (min_le_left _ _).trans (low j hj')
      · refine (min_le_right _ _).trans ((Finset.fold_min_le _).2 (.inr ⟨⟨j.val - 2000 * b, by omega⟩, Finset.mem_univ _, ?_⟩))
        exact le_of_eq (congrArg _ (Fin.ext (by show 2000 * b + (j.val - 2000 * b) = j.val; omega)))
    · rcases min_choice (acc0 V c b (ix2 0 n)) (Finset.fold min ⊤ (fun j : Fin 2000 =>
        half (arrE V c) (arrW V c) n ⟨2000 * b + j.val, by omega⟩) Finset.univ) with h | h
      · exact att.imp (fun e' => h.trans e') (fun ⟨j, hj⟩ => ⟨j, h.trans hj⟩)
      · rcases (Finset.fold_min_le _).1 (le_refl (Finset.fold min ⊤ (fun j : Fin 2000 =>
          half (arrE V c) (arrW V c) n ⟨2000 * b + j.val, by omega⟩) Finset.univ)) with h' | ⟨x, -, h'⟩
        · exact .inl (h.trans (top_le_iff.1 h'))
        · exact .inr ⟨_, h.trans (le_antisymm (((Finset.le_fold_min _).1 (le_refl _)).2 x (Finset.mem_univ _)) h')⟩

/-- What the call computes for patch `n` is the distance to its nearest row. -/
theorem dist0_nearest (n : Fin 3136) : Nearest (arrE V c) (arrW V c) n (dist0 V c (ix2 0 n)) := by
  have e : dist0 V c (ix2 0 n) = distOf (arrE V c) n (acc0 V c 25 (ix2 0 n)) := by
    have hn : norms V c (ix2 0 n) = normE (arrE V c) n :=
      (pay1_apply _ n).trans (Finset.sum_congr rfl fun k _ => congrArg₂ (· * ·) (blk0_E V c first0 n k) (blk0_E V c first0 n k))
    unfold dist0 distOf
    rw [pay4_apply, hn]
  obtain ⟨low, att⟩ := acc0_spec V c n 25 le_rfl
  have low' : ∀ j, acc0 V c 25 (ix2 0 n) ≤ half (arrE V c) (arrW V c) n j := fun j => low j (by have := j.isLt; omega)
  rw [e]
  refine ⟨?_, fun j => (distOf_mono _ _ (low' j)).trans (le_of_eq (distOf_half _ _ _ j))⟩
  rcases att with h | ⟨j, hj⟩
  · refine ⟨⟨0, by decide⟩, ?_⟩
    have h0 : half (arrE V c) (arrW V c) n ⟨0, by decide⟩ = ⊤ := top_le_iff.1 (h ▸ low' ⟨0, by decide⟩)
    rw [← distOf_half, h, h0]
  · exact ⟨j, by rw [hj, distOf_half]⟩

/-- The last grid point. -/
def last0 : Fin cfg0.N := ⟨24, by rw [show cfg0.N = 25 from N_0]; decide⟩

/-- The call's output array at the end. -/
theorem arr0_eq : (dat0 V c).arrAt 2 cfg0.N = dist0 V c := by
  refine (dat0 V c).arrAt_eq_of_after_last 2 last0 (by decide +kernel) _ fun j => ?_
  rw [dat0_after_2]
  rfl

end Call

end Cert.KernelIdeal.Val

end
-- ==== Proof.Val.Ref.lean ====
/-
  The reference's operations read at an index: the distance to the nearest row, the enlarged map.
-/
module

public import proofs.«01_k».proof.Proof.Gen.ReferenceIdeal.Read
public import proofs.«01_k».proof.Proof.Val.Dist
public import Idealize.ShloMosaic.Lib.SortFacts
public import Idealize.ShloMosaic.Lib.Pointwise

@[expose] public section

set_option maxRecDepth 16384

noncomputable section

namespace Cert.ReferenceIdeal.Val

open Cert.ReferenceIdeal Cert.ReferenceIdeal.Gen Cert.ReferenceIdeal.Read
open Cert.KernelIdeal.Val (dist normE normW prod Nearest)
open Idealize.ShloMosaic

variable (E : Vec Ideal S3136x384 .f32) (W : Vec Ideal S50000x384 .f32)

/-! ## The nearest row -/

/-- The reference's distances. -/
theorem distances_apply (n : Fin 3136) (j : Fin 50000) : val_main_v16 (F := Ideal) E W (ix2 n j) = dist E W n j := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [Cert.Reals.two_f32]
  rfl

/-- The comparison of extended reals as a bit. -/
theorem gt_iff (a b : EReal) : ((FloatOps.cmpfTotal (F := Ideal) (φ := .f32) .gt a b == 1#1) = true) ↔ b < a := by
  rw [Ideal.cmpfTotal_def]
  show ((BitVec.ofBool (decide (b < a)) == 1#1) = true) ↔ _
  by_cases h : b < a <;> simp [h]

/-- The first of the greatest elements of a row, sorted greatest first, is one of the row's elements and above all of them. -/
theorem topK_first (x : Vec Ideal S3136x50000 .f32) (h : S3136x50000.Slices (fun _ => 0) S3136x9) (n : Fin 3136) :
    (∃ j : Fin 50000, (Host.topK S3136x9 1 (FloatOps.cmpfTotal (F := Ideal) (φ := .f32) .gt) x h).1 (ix2 n 0) = x (ix2 n j))
      ∧ ∀ j : Fin 50000, x (ix2 n j) ≤ (Host.topK S3136x9 1 (FloatOps.cmpfTotal (F := Ideal) (φ := .f32) .gt) x h).1 (ix2 n 0) := by
  let R : Fin 50000 → Fin 50000 → Bool := fun k k' => FloatOps.cmpfTotal (F := Ideal) (φ := .f32) .gt (x (ix2 n k)) (x (ix2 n k')) == 1#1
  have hR : ∀ k k', R k k' = true ↔ x (ix2 n k') < x (ix2 n k) := fun k k' => gt_iff _ _
  have hR' : ∀ k k', R k k' = false ↔ x (ix2 n k) ≤ x (ix2 n k') := fun k k' => by
    rw [← not_lt, ← hR, Bool.not_eq_true]
  have e : (Host.topK S3136x9 1 (FloatOps.cmpfTotal (F := Ideal) (φ := .f32) .gt) x h).1 (ix2 n 0) = x (ix2 n (sortedFrom R 0)) := by
    have along : ∀ k : Fin 50000, (ix2 n 0 : S3136x50000.Idx).along 1 k = ix2 n k := fun k => funext fun a => by
      match a with
      | ⟨0, _⟩ => rfl
      | ⟨1, _⟩ => rfl
    pointwise [Host.topK, Host.sort2]
    simp only [along, R]
  rw [e]
  refine ⟨⟨_, rfl⟩, fun j => ?_⟩
  obtain ⟨k, rfl⟩ := sortedFrom_surjective R j
  by_cases hk : k = 0
  · rw [hk]
  · refine (hR' _ _).1 (sortedFrom_noInversion R R (fun a b hab => ?_) (fun a b hab => hab) (fun a b c hab hbc => ?_) 0 k (Fin.pos_iff_ne_zero.2 hk))
    · exact (hR' _ _).2 ((hR _ _).1 hab).le
    · exact (hR' _ _).2 (((hR' _ _).1 hab).trans ((hR' _ _).1 hbc))

/-- The reference's score of a patch is the distance to its nearest row. -/
theorem score_nearest (n : Fin 3136) : Nearest E W n (val_main_v20 (F := Ideal) E W (ix1 n)) := by
  have e : val_main_v20 (F := Ideal) E W (ix1 n) = -val_main_values (F := Ideal) E W (ix2 n 0) := by
    pointwise [val_main_v20, val_main_v19, val_main_v18]
  have neg : ∀ j, val_main_v17 (F := Ideal) E W (ix2 n j) = -dist E W n j := fun j => by
    rw [← distances_apply]
    pointwise [val_main_v17]
  obtain ⟨⟨j, hj⟩, up⟩ := topK_first (val_main_v17 (F := Ideal) E W) sliceFits_S3136x50000_S3136x9 n
  rw [e]
  refine ⟨⟨j, ?_⟩, fun i => ?_⟩
  · refine (congrArg (- ·) (hj.trans (neg j))).trans (neg_neg _)
  · have := EReal.neg_le_neg_iff.2 ((neg i).symm.le.trans (up i))
    rwa [neg_neg] at this

/-! ## The enlarged map, mirrored at its edges -/

/-- The map, each patch's score repeated eight times along both axes. -/
theorem enlarged_apply (b : Fin 4) (i j : Fin 224) :
    val_main_v25 (F := Ideal) E W (ix4 b 0 i j)
      = val_main_v20 (F := Ideal) E W (ix1 ⟨b.val * 784 + i.val / 8 * 28 + j.val / 8, by omega⟩) := by
  pointwise [val_main_v25, val_main_v24, val_main_v23, val_main_v22, val_main_v21]

end Cert.ReferenceIdeal.Val

end
-- ==== Proof.Val.Mirror.lean ====
/-
  A map mirrored at its four edges, read at an index: the two joins along the rows and the two along the columns.
-/
module

public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Gen Cert.ReferenceIdeal.Read
open Idealize.ShloMosaic

/-- The coordinate of the map that position `s` of the mirrored map shows. -/
def mirror (s : ℕ) : ℕ := if s < 16 then 16 - s else if s < 240 then s - 16 else 462 - s

/-- A mirrored position lies on the map. -/
theorem mirror_lt {s : ℕ} (h : s < 256) : mirror s < 224 := by
  unfold mirror; split_ifs <;> omega

/-- Positions before the map are mirrored at its start. -/
theorem mirror_low {s : ℕ} (h : s < 16) : mirror s = 16 - s := if_pos h

/-- Positions on the map are shifted alone. -/
theorem mirror_mid {s : ℕ} (h : ¬s < 16) (h' : s < 240) : mirror s = s - 16 := (if_neg h).trans (if_pos h')

/-- Positions past the map are mirrored at its end. -/
theorem mirror_high {s : ℕ} (h : ¬s < 240) : mirror s = 462 - s := (if_neg (by omega)).trans (if_neg h)

/-- The rows below the upper edge, put before the map in reverse order. -/
theorem upper (X : Vec Ideal S4x1x224x224 .f32) (b : Fin 4) (i : Fin 240) (j : Fin 224) :
    concatenate S4x1x240x224 2 [⟨S4x1x16x224, Host.reverse [2] (extractStridedSlice S4x1x16x224 ![0, 0, 1, 0] X slices_S4x1x224x224_S4x1x16x224_0_0_1_0)⟩,
        ⟨S4x1x224x224, X⟩] concatenates_S4x1x16x224_S4x1x224x224_S4x1x240x224_d2 (ix4 b 0 i j)
      = X (ix4 b 0 ⟨mirror i.val, mirror_lt (by omega)⟩ j) := by
  pointwise
  simp (decide := true) only [List.mem_singleton, if_true, if_false, reduceIte]
  by_cases h : i.val < 16
  · refine (dif_pos h).trans (congrArg (fun z => X (ix4 b 0 z j)) (Fin.ext ?_))
    simp only [Fin.val_rev, mirror_low h]; omega
  · refine (dif_neg h).trans (congrArg (fun z => X (ix4 b 0 z j)) (Fin.ext ?_))
    simp only [mirror_mid h i.isLt]

/-- The rows above the lower edge, put after the map in reverse order. -/
theorem lower (Y : Vec Ideal S4x1x240x224 .f32) (b : Fin 4) (i : Fin 256) (j : Fin 224) :
    concatenate S4x1x256x224 2 [⟨S4x1x240x224, Y⟩,
        ⟨S4x1x16x224, Host.reverse [2] (extractStridedSlice S4x1x16x224 ![0, 0, 223, 0] Y slices_S4x1x240x224_S4x1x16x224_0_0_223_0)⟩]
        concatenates_S4x1x240x224_S4x1x16x224_S4x1x256x224_d2 (ix4 b 0 i j)
      = Y (ix4 b 0 ⟨if i.val < 240 then i.val else 478 - i.val, by split_ifs <;> omega⟩ j) := by
  pointwise
  simp (decide := true) only [List.mem_singleton, if_true, if_false, reduceIte]
  by_cases h : i.val < 240
  · refine (dif_pos h).trans (congrArg (fun z => Y (ix4 b 0 z j)) (Fin.ext ?_))
    simp only [if_pos h]
  · refine (dif_neg h).trans (congrArg (fun z => Y (ix4 b 0 z j)) (Fin.ext ?_))
    simp only [Fin.val_rev, if_neg h]; omega

/-- The columns after the left edge, put before the map in reverse order. -/
theorem left (X : Vec Ideal S4x1x256x224 .f32) (b : Fin 4) (i : Fin 256) (j : Fin 240) :
    concatenate S4x1x256x240 3 [⟨S4x1x256x16, Host.reverse [3] (extractStridedSlice S4x1x256x16 ![0, 0, 0, 1] X slices_S4x1x256x224_S4x1x256x16_0_0_0_1)⟩,
        ⟨S4x1x256x224, X⟩] concatenates_S4x1x256x16_S4x1x256x224_S4x1x256x240_d3 (ix4 b 0 i j)
      = X (ix4 b 0 i ⟨mirror j.val, mirror_lt (by omega)⟩) := by
  pointwise
  simp (decide := true) only [List.mem_singleton, if_true, if_false, reduceIte]
  by_cases h : j.val < 16
  · refine (dif_pos h).trans (congrArg (fun z => X (ix4 b 0 i z)) (Fin.ext ?_))
    simp only [Fin.val_rev, mirror_low h]; omega
  · refine (dif_neg h).trans (congrArg (fun z => X (ix4 b 0 i z)) (Fin.ext ?_))
    simp only [mirror_mid h j.isLt]

/-- The columns before the right edge, put after the map in reverse order. -/
theorem right (Y : Vec Ideal S4x1x256x240 .f32) (b : Fin 4) (i j : Fin 256) :
    concatenate S4x1x256x256 3 [⟨S4x1x256x240, Y⟩,
        ⟨S4x1x256x16, Host.reverse [3] (extractStridedSlice S4x1x256x16 ![0, 0, 0, 223] Y slices_S4x1x256x240_S4x1x256x16_0_0_0_223)⟩]
        concatenates_S4x1x256x240_S4x1x256x16_S4x1x256x256_d3 (ix4 b 0 i j)
      = Y (ix4 b 0 i ⟨if j.val < 240 then j.val else 478 - j.val, by split_ifs <;> omega⟩) := by
  pointwise
  simp (decide := true) only [List.mem_singleton, if_true, if_false, reduceIte]
  by_cases h : j.val < 240
  · refine (dif_pos h).trans (congrArg (fun z => Y (ix4 b 0 i z)) (Fin.ext ?_))
    simp only [if_pos h]
  · refine (dif_neg h).trans (congrArg (fun z => Y (ix4 b 0 i z)) (Fin.ext ?_))
    simp only [Fin.val_rev, if_neg h]; omega

/-- The two joins along one axis together. -/
theorem mirror_join {s : ℕ} (h : s < 256) : mirror (if s < 240 then s else 478 - s) = mirror s := by
  split_ifs with h1
  · rfl
  · rw [mirror_mid (by omega) (by omega), mirror_high h1]; omega

variable (E : Vec Ideal S3136x384 .f32) (W : Vec Ideal S50000x384 .f32)

/-- The reference's mirrored map. -/
theorem mirrored_apply (b : Fin 4) (i j : Fin 256) :
    val_main_v37 (F := Ideal) E W (ix4 b 0 i j)
      = val_main_v25 (F := Ideal) E W (ix4 b 0 ⟨mirror i.val, mirror_lt i.isLt⟩ ⟨mirror j.val, mirror_lt j.isLt⟩) := by
  have e7 : ∀ (i : Fin 256) (j : Fin 224), val_main_call0_v7 (F := Ideal) E W (ix4 b 0 i j) = val_main_v25 (F := Ideal) E W (ix4 b 0 ⟨mirror i.val, mirror_lt i.isLt⟩ j) :=
    fun i j => (lower (val_main_call0_v3 (F := Ideal) E W) b i j).trans ((upper (val_main_v25 (F := Ideal) E W) b _ j).trans
      (congrArg (fun z => val_main_v25 (F := Ideal) E W (ix4 b 0 z j)) (Fin.ext (mirror_join i.isLt))))
  exact (right (val_main_call0_v11 (F := Ideal) E W) b i j).trans ((left (val_main_call0_v7 (F := Ideal) E W) b i _).trans
    ((congrArg (fun z => val_main_call0_v7 (F := Ideal) E W (ix4 b 0 i z)) (Fin.ext (mirror_join j.isLt))).trans (e7 _ _)))

end Cert.ReferenceIdeal.Val

end
-- ==== Proof.Val.Passes.lean ====
/-
  The reference's two passes of the Gaussian, each the sum over the 33 weights.
-/
module

public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Gen Cert.ReferenceIdeal.Read
open Idealize.ShloMosaic

/-- The Gaussian's weight `k`. -/
def weight (k : Fin 33) : EReal := val_main_v36 (F := Ideal) (ix1 k)

/-- A sum over the 33 weights, term after term. -/
theorem sum_weights (f : Fin 33 → EReal) :
    ∑ k, f k = f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31 + f 32 := by
  simp only [Fin.sum_univ_castSucc, Fin.sum_univ_zero, zero_add]
  rfl

variable (E : Vec Ideal S3136x384 .f32) (W : Vec Ideal S50000x384 .f32)

/-- The pass over the rows. -/
theorem rows_apply (b : Fin 4) (i : Fin 224) (j : Fin 256) :
    val_main_v236 (F := Ideal) E W (ix4 b 0 i j)
      = ∑ k : Fin 33, weight k * val_main_v37 (F := Ideal) E W (ix4 b 0 ⟨k.val + i.val, by omega⟩ j) := by
  refine Eq.trans ?_ (sum_weights _).symm
  pointwise [
    val_main_v236, val_main_v235, val_main_v234, val_main_v233, val_main_v232, val_main_v231, val_main_v230, val_main_v229,
    val_main_v228, val_main_v227, val_main_v226, val_main_v225, val_main_v224, val_main_v223, val_main_v222, val_main_v221,
    val_main_v220, val_main_v219, val_main_v218, val_main_v217, val_main_v216, val_main_v215, val_main_v214, val_main_v213,
    val_main_v212, val_main_v211, val_main_v210, val_main_v209, val_main_v208, val_main_v207, val_main_v206, val_main_v205,
    val_main_v204, val_main_v203, val_main_v202, val_main_v201, val_main_v200, val_main_v199, val_main_v198, val_main_v197,
    val_main_v196, val_main_v195, val_main_v194, val_main_v193, val_main_v192, val_main_v191, val_main_v190, val_main_v189,
    val_main_v188, val_main_v187, val_main_v186, val_main_v185, val_main_v184, val_main_v183, val_main_v182, val_main_v181,
    val_main_v180, val_main_v179, val_main_v178, val_main_v177, val_main_v176, val_main_v175, val_main_v174, val_main_v173,
    val_main_v172, val_main_v171, val_main_v170, val_main_v169, val_main_v168, val_main_v167, val_main_v166, val_main_v165,
    val_main_v164, val_main_v163, val_main_v162, val_main_v161, val_main_v160, val_main_v159, val_main_v158, val_main_v157,
    val_main_v156, val_main_v155, val_main_v154, val_main_v153, val_main_v152, val_main_v151, val_main_v150, val_main_v149,
    val_main_v148, val_main_v147, val_main_v146, val_main_v145, val_main_v144, val_main_v143, val_main_v142, val_main_v141,
    val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v104, val_main_v103, val_main_v102, val_main_v101,
    val_main_v100, val_main_v99, val_main_v98, val_main_v97, val_main_v96, val_main_v95, val_main_v94, val_main_v93,
    val_main_v92, val_main_v91, val_main_v90, val_main_v89, val_main_v88, val_main_v87, val_main_v86, val_main_v85,
    val_main_v84, val_main_v83, val_main_v82, val_main_v81, val_main_v80, val_main_v79, val_main_v78, val_main_v77,
    val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_v43, val_main_v42, val_main_v41, val_main_v40, val_main_v39, val_main_v38,
    val_main_cst_6]
  simp only [weight, Fin.isValue, Fin.val_zero, zero_add]

/-- The pass over the columns. -/
theorem columns_apply (b : Fin 4) (i j : Fin 224) :
    val_main_v435 (F := Ideal) E W (ix4 b 0 i j)
      = ∑ k : Fin 33, weight k * val_main_v236 (F := Ideal) E W (ix4 b 0 i ⟨k.val + j.val, by omega⟩) := by
  refine Eq.trans ?_ (sum_weights _).symm
  pointwise [
    val_main_v435, val_main_v434, val_main_v433, val_main_v432, val_main_v431, val_main_v430, val_main_v429, val_main_v428,
    val_main_v427, val_main_v426, val_main_v425, val_main_v424, val_main_v423, val_main_v422, val_main_v421, val_main_v420,
    val_main_v419, val_main_v418, val_main_v417, val_main_v416, val_main_v415, val_main_v414, val_main_v413, val_main_v412,
    val_main_v411, val_main_v410, val_main_v409, val_main_v408, val_main_v407, val_main_v406, val_main_v405, val_main_v404,
    val_main_v403, val_main_v402, val_main_v401, val_main_v400, val_main_v399, val_main_v398, val_main_v397, val_main_v396,
    val_main_v395, val_main_v394, val_main_v393, val_main_v392, val_main_v391, val_main_v390, val_main_v389, val_main_v388,
    val_main_v387, val_main_v386, val_main_v385, val_main_v384, val_main_v383, val_main_v382, val_main_v381, val_main_v380,
    val_main_v379, val_main_v378, val_main_v377, val_main_v376, val_main_v375, val_main_v374, val_main_v373, val_main_v372,
    val_main_v371, val_main_v370, val_main_v369, val_main_v368, val_main_v367, val_main_v366, val_main_v365, val_main_v364,
    val_main_v363, val_main_v362, val_main_v361, val_main_v360, val_main_v359, val_main_v358, val_main_v357, val_main_v356,
    val_main_v355, val_main_v354, val_main_v353, val_main_v352, val_main_v351, val_main_v350, val_main_v349, val_main_v348,
    val_main_v347, val_main_v346, val_main_v345, val_main_v344, val_main_v343, val_main_v342, val_main_v341, val_main_v340,
    val_main_v339, val_main_v338, val_main_v337, val_main_v336, val_main_v335, val_main_v334, val_main_v333, val_main_v332,
    val_main_v331, val_main_v330, val_main_v329, val_main_v328, val_main_v327, val_main_v326, val_main_v325, val_main_v324,
    val_main_v323, val_main_v322, val_main_v321, val_main_v320, val_main_v319, val_main_v318, val_main_v317, val_main_v316,
    val_main_v315, val_main_v314, val_main_v313, val_main_v312, val_main_v311, val_main_v310, val_main_v309, val_main_v308,
    val_main_v307, val_main_v306, val_main_v305, val_main_v304, val_main_v303, val_main_v302, val_main_v301, val_main_v300,
    val_main_v299, val_main_v298, val_main_v297, val_main_v296, val_main_v295, val_main_v294, val_main_v293, val_main_v292,
    val_main_v291, val_main_v290, val_main_v289, val_main_v288, val_main_v287, val_main_v286, val_main_v285, val_main_v284,
    val_main_v283, val_main_v282, val_main_v281, val_main_v280, val_main_v279, val_main_v278, val_main_v277, val_main_v276,
    val_main_v275, val_main_v274, val_main_v273, val_main_v272, val_main_v271, val_main_v270, val_main_v269, val_main_v268,
    val_main_v267, val_main_v266, val_main_v265, val_main_v264, val_main_v263, val_main_v262, val_main_v261, val_main_v260,
    val_main_v259, val_main_v258, val_main_v257, val_main_v256, val_main_v255, val_main_v254, val_main_v253, val_main_v252,
    val_main_v251, val_main_v250, val_main_v249, val_main_v248, val_main_v247, val_main_v246, val_main_v245, val_main_v244,
    val_main_v243, val_main_v242, val_main_v241, val_main_v240, val_main_v239, val_main_v238, val_main_v237,
    val_main_cst_7]
  simp only [weight, Fin.isValue, Fin.val_zero, zero_add]

end Cert.ReferenceIdeal.Val

end
-- ==== Proof.Val.Blur.lean ====
/-
  The host operations before the third kernel call, read at an index, and the map the third call leaves.
-/
module

public import proofs.«01_k».proof.Proof.KI.Run
public import proofs.«01_k».proof.Proof.Val.Ref
public import proofs.«01_k».proof.Proof.Val.Mirror
public import proofs.«01_k».proof.Proof.Val.Passes
public import Idealize.ShloMosaic.Lib.Pipeline.ValueKit
public import Idealize.ShloMosaic.Lib.StableHlo.RunRead
public import Idealize.ShloMosaic.Lib.Pointwise

@[expose] public section

set_option maxRecDepth 16384

noncomputable section

namespace Cert.KernelIdeal.Val

open Cert.KernelIdeal Cert.KernelIdeal.Gen Cert.KernelIdeal.Hand
open Cert.ReferenceIdeal.Val (mirror mirror_lt weight)
open Idealize.ShloMosaic Idealize.ShloMosaic.TcCoe Idealize.ShloMosaic.StableHlo
open Idealize.ShloMosaic.Pipeline (Dat Cfg Window)

/-- The buffers after the host operations between the second and the third call. -/
abbrev line (V : Valuation τ sig (Elt Ideal)) : Valuation τ sig (Elt Ideal) :=
  after hostOps2_6 (after hostOps2_5 (after hostOps2_4 (after hostOps2_3 (after hostOps2_2 (after hostOps2_1 (after hostOps2 V))))))

/-! ## The 28 weights of each of the 224 outputs -/

/-- The position in the map before mirroring, shifted by 16: output plus weight's number minus 16. -/
def shifted : IVec S33x224x28 32 :=
  subi (addi (iotaInDim S33x224x28 32 1) (iotaInDim S33x224x28 32 0)) (broadcastInDim S33x224x28 ![] bcast_S_S33x224x28 (constantI S_ 32 16#32))

/-- Mirrored at the edge 0. -/
def folded : IVec S33x224x28 32 :=
  select (cmpi .slt shifted (broadcastInDim S33x224x28 ![] bcast_S_S33x224x28 (constantI S_ 32 0#32))) (negi shifted) shifted

/-- Mirrored at the edge 223. -/
def back : IVec S33x224x28 32 :=
  select (cmpi .sgt folded (broadcastInDim S33x224x28 ![] bcast_S_S33x224x28 (constantI S_ 32 223#32)))
    (subi (broadcastInDim S33x224x28 ![] bcast_S_S33x224x28 (constantI S_ 32 446#32)) folded) folded

/-- Where the patch that position shows has the number of the third axis. -/
def chosen : IVec S33x224x28 1 :=
  cmpi .eq (Host.divsi back (broadcastInDim S33x224x28 ![] bcast_S_S33x224x28 (constantI S_ 32 8#32))) (iotaInDim S33x224x28 32 2)

/-- The exponential of the Gaussian's exponents. -/
def bell : FVec Ideal S33 .f32 :=
  let d : FVec Ideal S33 .f32 := subf (sitofp .f32 (iotaInDim S33 32 0)) (broadcastInDim S33 ![] bcast_S_S33 (constant (F := Ideal) S_ .f32 0x41800000#32))
  Host.exp (Host.divf (Host.negf (mulf d d)) (broadcastInDim S33 ![] bcast_S_S33 (constant (F := Ideal) S_ .f32 0x42000000#32)))

/-- The Gaussian as the kernel's program computes it. -/
def gauss : FVec Ideal S33 .f32 :=
  Host.divf bell (broadcastInDim S33 ![] bcast_S_S33 (Host.reduceAdd bell (constant (F := Ideal) S_ .f32 0x00000000#32) reducesTo_S33_S_d0 h_S_))

/-- The matrix that enlarges, mirrors and blurs along one axis. -/
def spread : FVec Ideal S224x28 .f32 :=
  Host.reduceAdd (F := Ideal) (φ := .f32) (select chosen
      (broadcastInDim S33x224x28 ![0, 1, 2] bcast_S33x1x1_S33x224x28_0_1_2 (broadcastInDim S33x1x1 ![0] bcast_S33_S33x1x1_0 gauss))
      (broadcastInDim S33x224x28 ![] bcast_S_S33x224x28 (constant (F := Ideal) S_ .f32 0x00000000#32)))
    (constant (F := Ideal) S_ .f32 0x00000000#32) reducesTo_S33x224x28_S224x28_d0 h_S_

/-- The first host operations leave the positions, mirrored at the low end, in `main_v31`. -/
theorem stretch1 (V : Valuation τ sig (Elt Ideal)) :
    (show IVec S33x224x28 32 from after hostOps2_1 (after hostOps2 V) (Proc.devRef .tc main_v31)) = folded := by
  rw [show after hostOps2_1 (after hostOps2 V) (Proc.devRef .tc main_v31)
    = (select (after hostOps2 V (Proc.devRef .tc main_v29) : IVec S33x224x28 1) (after hostOps2 V (Proc.devRef .tc main_v30) : IVec S33x224x28 32)
        (after hostOps2 V (Proc.devRef .tc main_v27)) : IVec S33x224x28 32) from by
      generalize after hostOps2 V = V'; after_reads_simp; rfl]
  after_reads_simp
  rfl

/-- The next ones mirror them at the high end, into `main_v36`. -/
theorem stretch3 (V : Valuation τ sig (Elt Ideal)) :
    (show IVec S33x224x28 32 from after hostOps2_3 (after hostOps2_2 V) (Proc.devRef .tc main_v36))
      = (select (cmpi .sgt (V (Proc.devRef .tc main_v31) : IVec S33x224x28 32) (broadcastInDim S33x224x28 ![] bcast_S_S33x224x28 (constantI S_ 32 223#32)))
    (subi (broadcastInDim S33x224x28 ![] bcast_S_S33x224x28 (constantI S_ 32 446#32)) (V (Proc.devRef .tc main_v31) : IVec S33x224x28 32)) (V (Proc.devRef .tc main_v31) : IVec S33x224x28 32)) := by
  after_reads_simp
  rfl

/-- The last ones sum the weights of the positions that lie in a patch, into `main_v42`. -/
theorem stretch6 (V : Valuation τ sig (Elt Ideal)) :
    (show Vec Ideal S224x28 .f32 from after hostOps2_6 (after hostOps2_5 (after hostOps2_4 V)) (Proc.devRef .tc main_v42))
      = Host.reduceAdd (F := Ideal) (φ := .f32) (select (cmpi .eq (Host.divsi (V (Proc.devRef .tc main_v36) : IVec S33x224x28 32) (broadcastInDim S33x224x28 ![] bcast_S_S33x224x28 (constantI S_ 32 8#32))) (V (Proc.devRef .tc main_v24) : IVec S33x224x28 32))
      (broadcastInDim S33x224x28 ![0, 1, 2] bcast_S33x1x1_S33x224x28_0_1_2 (broadcastInDim S33x1x1 ![0] bcast_S33_S33x1x1_0 (V (Proc.devRef .tc main_v21) : FVec Ideal S33 .f32)))
      (broadcastInDim S33x224x28 ![] bcast_S_S33x224x28 (constant (F := Ideal) S_ .f32 0x00000000#32)))
    (constant (F := Ideal) S_ .f32 0x00000000#32) reducesTo_S33x224x28_S224x28_d0 h_S_ := by
  after_reads_simp
  rfl

/-- The Gaussian's weights lie in `main_v21` meanwhile. -/
theorem v21_eq (V : Valuation τ sig (Elt Ideal)) :
    (show Vec Ideal S33 .f32 from after hostOps2_3 (after hostOps2_2 (after hostOps2_1 (after hostOps2 V))) (Proc.devRef .tc main_v21)) = gauss := by
  after_reads_simp
  rfl

/-- The patches' numbers lie in `main_v24` meanwhile. -/
theorem v24_eq (V : Valuation τ sig (Elt Ideal)) :
    (show IVec S33x224x28 32 from after hostOps2_3 (after hostOps2_2 (after hostOps2_1 (after hostOps2 V))) (Proc.devRef .tc main_v24)) = iotaInDim S33x224x28 32 2 := by
  after_reads_simp

/-- The host operations leave that matrix in `main_v42`. -/
theorem v42_eq (V : Valuation τ sig (Elt Ideal)) :
    (show Vec Ideal S224x28 .f32 from line V (Proc.devRef .tc main_v42)) = spread := by
  refine (stretch6 _).trans ?_
  have h21 := v21_eq V
  have h24 := v24_eq V
  have h36 := (stretch3 (after hostOps2_1 (after hostOps2 V))).trans (congrArg (fun z : IVec S33x224x28 32 =>
    select (cmpi .sgt z (broadcastInDim S33x224x28 ![] bcast_S_S33x224x28 (constantI S_ 32 223#32)))
    (subi (broadcastInDim S33x224x28 ![] bcast_S_S33x224x28 (constantI S_ 32 446#32)) z) z) (stretch1 V))
  generalize after hostOps2_3 (after hostOps2_2 (after hostOps2_1 (after hostOps2 V))) = V' at h21 h24 h36 ⊢
  dsimp only at h21 h24 h36
  rw [h21, h24, h36]
  rfl

/-- Both programs compute the same Gaussian. -/
theorem gauss_eq (k : Fin 33) : gauss (ix1 k) = Cert.ReferenceIdeal.Val.weight k := rfl

/-- The words of the choice, decided for each position of the mirrored map and each patch. -/
theorem word_of_mirror : ∀ (s : Fin 256) (p : Fin 28),
    let x := IntOp.subi (BitVec.ofNat 32 s.val) 16#32
    let y := Scalar.select (IntOp.cmpi .slt x 0#32) (-x) x
    IntOp.cmpi .eq (IntOp.divsi .host (Scalar.select (IntOp.cmpi .sgt y 223#32) (IntOp.subi 446#32 y) y) 8#32) (BitVec.ofNat 32 p.val)
      = if mirror s.val / 8 = p.val then 1#1 else 0#1 := by
  decide +kernel

/-- Weight `k` of output `i` falls on the patch the mirrored map shows at `k + i`. -/
theorem chosen_apply (k : Fin 33) (i : Fin 224) (p : Fin 28) :
    chosen (ix3 k i p) = if mirror (k.val + i.val) / 8 = p.val then 1#1 else 0#1 := by
  pointwise [chosen, back, folded, shifted]
  rw [show IntOp.addi (BitVec.ofNat 32 i.val) (BitVec.ofNat 32 k.val) = BitVec.ofNat 32 (k.val + i.val) from by
    rw [Nat.add_comm]; exact (BitVec.ofNat_add _ _).symm]
  exact word_of_mirror ⟨k.val + i.val, by omega⟩ p

/-- The patch the mirrored map shows at a position. -/
def patch (s : Fin 256) : Fin 28 := ⟨mirror s.val / 8, by have := mirror_lt s.isLt; omega⟩

/-- Position `k + i` of the mirrored map. -/
def pos (k : Fin 33) (i : Fin 224) : Fin 256 := ⟨k.val + i.val, by omega⟩

/-- The matrix at an index. -/
theorem spread_apply (i : Fin 224) (p : Fin 28) :
    spread (ix2 i p) = ∑ k : Fin 33, if patch (pos k i) = p then weight k else 0 := by
  pointwise [spread]
  refine Finset.sum_congr rfl fun k _ => ?_
  rw [chosen_apply, gauss_eq]
  by_cases h : mirror (k.val + i.val) / 8 = p.val
  · rw [if_pos h, if_pos (Fin.ext h)]; rfl
  · rw [if_neg h, if_neg fun e => h (congrArg Fin.val e)]; rfl

/-- The Gaussian's exponentials are positive. -/
theorem bell_pos (k : Fin 33) : 0 < bell (ix1 k) := by
  pointwise [bell]
  obtain ⟨r, hr⟩ : ∃ r : ℝ, (FloatOps.sitofp (F := Ideal) .f32 (BitVec.ofNat 32 k.val) : EReal) = (r : EReal) := ⟨_, rfl⟩
  rw [hr, Cert.Reals.sixteen_f32, Cert.Reals.thirtytwo_f32, ← EReal.coe_sub, ← EReal.coe_mul, ← EReal.coe_neg, Ideal.div,
    if_neg (by norm_num), ← EReal.coe_inv, ← EReal.coe_mul]
  exact Cert.Reals.exp_pos _

/-- The Gaussian's weights are nonnegative. -/
theorem weight_nonneg (k : Fin 33) : 0 ≤ weight k := by
  rw [← gauss_eq]
  pointwise [gauss]
  exact Cert.Reals.div_nonneg (bell_pos k).le
    ((bell_pos 0).trans_le (Finset.single_le_sum (f := fun k => bell (ix1 k)) (fun k _ => (bell_pos k).le) (Finset.mem_univ 0)))

/-! ## The map of the distances, four images of 28 × 28 patches -/

/-- The host operations leave the distances, reshaped, in `main_v10`. -/
theorem v10_apply (V : Valuation τ sig (Elt Ideal)) (b : Fin 4) (r c : Fin 28) :
    (show Vec Ideal S4x28x28 .f32 from line V (Proc.devRef .tc main_v10)) (ix3 b r c)
      = (show Vec Ideal S3136 .f32 from V (Proc.devRef .tc main_v1)) (ix1 ⟨b.val * 784 + r.val * 28 + c.val, by omega⟩) := by
  unfold line
  after_reads_simp
  pointwise

/-! ## The third call -/

/-- The third call's product at an index. -/
theorem pay_apply (bu : Vec Ideal S224x28 .f32) (p : Vec Ideal S1x28x28 .f32) (i j : Fin 224) :
    k2_pay1 (F := Ideal) bu p (ix4 0 0 i j) = ∑ x : Fin 28, (∑ y : Fin 28, bu (ix2 i y) * p (ix3 0 y x)) * bu (ix2 j x) := by
  pointwise [k2_pay1]

variable (V : Dev nD → Valuation τ sig (Elt Ideal)) (c : Dev nD)

/-- The spread matrix the call finds. -/
abbrev arrU : Vec Ideal S224x28 .f32 := V c main_v42

/-- The map of the distances the call finds. -/
abbrev arrP : Vec Ideal S4x28x28 .f32 := V c main_v10

/-- The matrix's block is the same at every point. -/
theorem index2_0 : ∀ t : Fin cfg2.N, win2_0.index t = ![0, 0] := (by decide +kernel : ∀ t : Fin grid2.N, _)
/-- The map's block at a point is the point's image. -/
theorem index2_1 : ∀ t : Fin cfg2.N, win2_1.index t = ![t.val, 0, 0] := (by decide +kernel : ∀ t : Fin grid2.N, _)
/-- The output's block at a point is the point's image. -/
theorem index2_2 : ∀ t : Fin cfg2.N, win2_2.index t = ![t.val, 0, 0, 0] := (by decide +kernel : ∀ t : Fin grid2.N, _)

/-- The matrix's block is the matrix. -/
theorem blk2_U (t : Fin cfg2.N) (i : Fin 224) (p : Fin 28) : blk2 V c 0 t (ix2 i p) = arrU V c (ix2 i p) := by
  blk_simp [blk2]
  refine congrArg (arrU V c) ?_
  blk_ext [index2_0]

/-- There are four points. -/
theorem lt_4 (t : Fin cfg2.N) : t.val < 4 := Nat.lt_of_lt_of_eq t.isLt N_2

/-- The map's block at a point is one image. -/
theorem blk2_P (t : Fin cfg2.N) (y x : Fin 28) : blk2 V c 1 t (ix3 0 y x) = arrP V c (ix3 ⟨t.val, lt_4 t⟩ y x) := by
  blk_simp [blk2]
  refine congrArg (arrP V c) ?_
  blk_ext [index2_1]

/-- The blurred map, from the matrix and the map the call finds. -/
def blurMap (U : Vec Ideal S224x28 .f32) (P : Vec Ideal S4x28x28 .f32) : Vec Ideal S4x1x224x224 .f32 := fun n =>
  ∑ x : Fin 28, (∑ y : Fin 28, U (ix2 (n 2) y) * P (ix3 (n 0) y x)) * U (ix2 (n 3) x)

/-- The call's output array at the end. -/
theorem arr2_eq : (dat2 V c).arrAt 2 cfg2.N = blurMap (arrU V c) (arrP V c) := by
  refine (dat2 V c).arrAt_eq_of_covers 2 _ (by decide +kernel) fun t hf y => ?_
  rw [dat2_after_2]
  obtain ⟨i, j, rfl⟩ : ∃ i j : Fin 224, y = (ix4 0 0 i j : S1x1x224x224.Idx) := ⟨y 2, y 3, by
    funext a
    match a with
    | 0 => exact Subsingleton.elim (α := Fin 1) _ _
    | 1 => exact Subsingleton.elim (α := Fin 1) _ _
    | 2 => rfl
    | 3 => rfl⟩
  have e : (win2_2.blk t).view.emb (ix4 0 0 i j : S1x1x224x224.Idx) = (ix4 ⟨t.val, lt_4 t⟩ 0 i j : S4x1x224x224.Idx) := by
    blk_ext [index2_2]
  refine (pay_apply _ _ i j).trans ((Finset.sum_congr rfl fun x _ => ?_).trans (congrArg (blurMap (arrU V c) (arrP V c)) e).symm)
  exact congrArg₂ (· * ·) (Finset.sum_congr rfl fun y _ => congrArg₂ (· * ·) (blk2_U V c t i y) (blk2_P V c t y x)) (blk2_U V c t j x)

end Cert.KernelIdeal.Val

end
-- ==== Proof.Val.Row.lean ====
/-
  The second call's scratch row: what it holds after the last block of the memory bank.
-/
module

public import proofs.«01_k».proof.Proof.KI.Call1
public import proofs.«01_k».proof.Proof.Val.Dist
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Idealize.SL.Sem

/-- Twice the product with a row, less its squared norm, negated: as the second call computes it from half the norm in two parts. -/
def low (E : Vec Ideal S3136x384 .f32) (W : Vec Ideal S50000x384 .f32) (n : Fin 3136) (j : Fin 50000) : EReal :=
  ((-2 : ℝ) : EReal) * (prod E W n j + ((-1 : ℝ) : EReal) * (((1 / 2 : ℝ) : EReal) * normW W j)
    + ((-1 : ℝ) : EReal) * (((1 / 2 : ℝ) : EReal) * normW W j - ((1 / 2 : ℝ) : EReal) * normW W j))

/-- The operand row of the second call is patch `n`, followed by minus one twice. -/
def IsPatch (E : Vec Ideal S3136x384 .f32) (n : Fin 3136) (x : Vec Ideal S1x386 .f32) : Prop :=
  (∀ k : Fin 384, x (ix2 0 k.castSucc.castSucc) = E (ix2 n k))
    ∧ x (ix2 0 (Fin.last 384).castSucc) = ((-1 : ℝ) : EReal) ∧ x (ix2 0 (Fin.last 385)) = ((-1 : ℝ) : EReal)

/-- The lane's column compared with the number of rows. -/
theorem inside_iff (i : grid1.Coords) (l : Fin 8192) :
    IntOp.cmpi .slt (IntOp.addi (BitVec.ofNat 32 l.val) (Scalar.muli (BitVec.ofNat 32 (i 0).val) 8192#32)) 50000#32
      = if 8192 * (i 0).val + l.val < 50000 then 1#1 else 0#1 := by
  have hi : (i 0).val < 7 := (i 0).isLt
  have e : IntOp.addi (BitVec.ofNat 32 l.val) (Scalar.muli (BitVec.ofNat 32 (i 0).val) 8192#32)
      = IntOp.addi (IntOp.muli (BitVec.ofNat 32 8192) (BitVec.ofNat 32 (i 0).val)) (BitVec.ofNat 32 l.val) := by
    show BitVec.ofNat 32 l.val + BitVec.ofNat 32 (i 0).val * BitVec.ofNat 32 8192 = BitVec.ofNat 32 8192 * BitVec.ofNat 32 (i 0).val + BitVec.ofNat 32 l.val
    rw [BitVec.add_comm, BitVec.mul_comm]
  rw [e]
  exact WordCmp.cmpi_slt_mul_add_ofNat (w := 32) 8192 (i 0).val l.val 50000 (by omega) (by decide)

/-- The constant minus two. -/
theorem minus_two_f32 : Ideal.ofBits .f32 0xC0000000#32 = ((-2 : ℝ) : EReal) := by
  simp [Ideal.ofBits, Ideal.ieee, -EReal.coe_mul, -EReal.coe_neg]; norm_num

/-- The row's new part at a lane inside the memory bank. -/
theorem new_inside {E : Vec Ideal S3136x384 .f32} {W : Vec Ideal S50000x384 .f32} {n : Fin 3136} {x : Vec Ideal S1x386 .f32}
    (hx : IsPatch E n x) (i : grid1.Coords) (b : Vec Ideal S8192x384 .f32) (l : Fin 8192) (h : 8192 * (i 0).val + l.val < 50000)
    (hb : ∀ k : Fin 384, b (ix2 l k) = W (ix2 ⟨8192 * (i 0).val + l.val, h⟩ k)) :
    k1_pay2 (F := Ideal) i x b (ix2 0 l) = low E W n ⟨8192 * (i 0).val + l.val, h⟩ := by
  have hn : (∑ k : Fin 384, b (ix2 l k) * b (ix2 l k)) = normW W ⟨8192 * (i 0).val + l.val, h⟩ :=
    Finset.sum_congr rfl fun k _ => by rw [hb]
  pointwise [k1_pay2, k1_pay1]
  rw [inside_iff i l, if_pos h, hn, Fin.sum_univ_castSucc, Fin.sum_univ_castSucc, hx.2.1, hx.2.2]
  have e1 : (∑ k : Fin 384, E (ix2 n k) * b (ix2 l k)) = prod E W n ⟨8192 * (i 0).val + l.val, h⟩ :=
    Finset.sum_congr rfl fun k _ => by rw [hb]
  simp only [hx.1, Fin.val_last, Fin.val_castSucc, lt_irrefl, Nat.lt_irrefl, Nat.sub_self, dite_false, dite_true, Nat.zero_lt_one,
    show ¬ (385 < 384) from by decide, show ¬ (385 - 384 < 1) from by decide, Fin.is_lt, minus_two_f32, Cert.Reals.half_f32]
  unfold low
  rw [← e1]
  rfl

/-- The row's new part at a lane past the end of the memory bank. -/
theorem new_outside (x : Vec Ideal S1x386 .f32) (i : grid1.Coords) (b : Vec Ideal S8192x384 .f32) (l : Fin 8192)
    (h : ¬ 8192 * (i 0).val + l.val < 50000) : k1_pay2 (F := Ideal) i x b (ix2 0 l) = ⊤ := by
  pointwise [k1_pay2, k1_pay1]
  rw [inside_iff i l, if_neg h, Cert.Reals.inf_f32]
  rfl

/-- With the squared norm of the operand row, less two, it gives the squared distance of the reference, the bank's rows being finite. -/
theorem low_dist (E : Vec Ideal S3136x384 .f32) (W : Vec Ideal S50000x384 .f32) (n : Fin 3136) (j : Fin 50000)
    (hw : ∃ r : ℝ, normW W j = (r : EReal)) :
    normE E n + ((-1 : ℝ) : EReal) * ((-1 : ℝ) : EReal) + ((-1 : ℝ) : EReal) * ((-1 : ℝ) : EReal) - ((2 : ℝ) : EReal) + low E W n j
      = normE E n + normW W j - ((2 : ℝ) : EReal) * prod E W n j := by
  have he := normE_nonneg E n
  obtain ⟨r, hr⟩ := hw
  have hn : (-2 : ℝ) < 0 := by norm_num
  have hp : (0 : ℝ) < 2 := by norm_num
  have a : ((-1 : ℝ) : EReal) * (((1 / 2 : ℝ) : EReal) * (r : EReal)) = ((-(r / 2) : ℝ) : EReal) := by
    rw [← EReal.coe_mul, ← EReal.coe_mul]; exact congrArg _ (by ring)
  have b : ((-1 : ℝ) : EReal) * (((1 / 2 : ℝ) : EReal) * (r : EReal) - ((1 / 2 : ℝ) : EReal) * (r : EReal)) = ((0 : ℝ) : EReal) := by
    rw [← EReal.coe_mul, ← EReal.coe_sub, ← EReal.coe_mul]; exact congrArg _ (by ring)
  have one : ((-1 : ℝ) : EReal) * ((-1 : ℝ) : EReal) = ((1 : ℝ) : EReal) := by
    rw [← EReal.coe_mul]; exact congrArg _ (by ring)
  unfold low
  rw [hr, a, b, one]
  generalize normE E n = e at he ⊢
  generalize prod E W n j = p
  have hne : e ≠ ⊥ := fun h => by simp [h] at he
  have hen : e + ((1 : ℝ) : EReal) + ((1 : ℝ) : EReal) - ((2 : ℝ) : EReal) = e := by
    induction e with
    | bot => exact absurd rfl hne
    | top => rw [EReal.top_add_coe, EReal.top_add_coe, EReal.top_sub_coe]
    | coe e => rw [← EReal.coe_add, ← EReal.coe_add, ← EReal.coe_sub]; exact congrArg _ (by ring)
  have hwn : e + (r : EReal) ≠ ⊥ := by
    induction e with
    | bot => exact absurd rfl hne
    | top => rw [EReal.top_add_coe]; exact bot_ne_top.symm
    | coe e => rw [← EReal.coe_add]; exact EReal.coe_ne_bot _
  rw [hen]
  induction p with
  | bot =>
    rw [EReal.bot_add, EReal.bot_add, EReal.coe_mul_bot_of_neg hn, EReal.coe_mul_bot_of_pos hp, EReal.add_top_of_ne_bot hne, EReal.sub_bot hwn]
  | top =>
    rw [EReal.top_add_coe, EReal.top_add_coe, EReal.coe_mul_top_of_neg hn, EReal.coe_mul_top_of_pos hp, EReal.add_bot, EReal.sub_top]
  | coe p =>
    rw [← EReal.coe_add, ← EReal.coe_add, ← EReal.coe_mul, ← EReal.coe_mul]
    induction e with
    | bot => exact absurd rfl hne
    | top => rw [EReal.top_add_coe, EReal.top_add_coe, EReal.top_sub_coe]
    | coe e => rw [← EReal.coe_add, ← EReal.coe_add, ← EReal.coe_sub]; exact congrArg _ (by ring)

section Call

variable (V : Dev nD → Valuation τ sig (Elt Ideal)) (c : Dev nD)

/-- The memory bank's block at a point has the point's number. -/
theorem index1_1 : ∀ t : Fin cfg1.N, win1_1.index t = ![t.val, 0] := (by decide +kernel : ∀ t : Fin grid1.N, _)

/-- The part of a block inside the memory bank. -/
theorem size1_1 : ∀ t : Fin cfg1.N, min 8192 (50000 - 8192 * t.val) ≤ win1_1.xsize (grid1.coords t) 0 ∧ 384 ≤ win1_1.xsize (grid1.coords t) 1 :=
  (by decide +kernel : ∀ t : Fin grid1.N, _)

/-- The grid point's coordinate is its number. -/
theorem coord1 : ∀ t : Fin cfg1.N, (grid1.coords t 0).val = t.val := (by decide +kernel : ∀ t : Fin grid1.N, _)

/-- A staged block of the memory bank holds the bank's rows, where it lies inside the bank. -/
theorem staged_W (t : Fin cfg1.N) (d) (l : Fin 8192) (k : Fin 384) (h : 8192 * t.val + l.val < 50000) :
    (cfg1.win 1).fill (grid1.coords t) d (blk1 V c 1 t) (ix2 l k) = arrW V c (ix2 ⟨8192 * t.val + l.val, h⟩ k) := by
  have hm : (cfg1.win 1).moved (grid1.coords t) (ix2 l k) = true := ((cfg1.win 1).moved_iff _ _).2 fun a => by
    have hs := size1_1 t
    match a with
    | ⟨0, _⟩ => exact lt_of_lt_of_le (show l.val < min 8192 (50000 - 8192 * t.val) by omega) hs.1
    | ⟨1, _⟩ => exact lt_of_lt_of_le k.isLt hs.2
  unfold Pipeline.Window.fill
  rw [dif_pos hm]
  blk_simp [blk1]
  refine congrArg (arrW V c) ?_
  blk_ext [index1_1]

/-- What the scratch row holds at a column in the end: the patch's value for the bank's row of that number, past the bank `⊤`. -/
def padded (E : Vec Ideal S3136x384 .f32) (W : Vec Ideal S50000x384 .f32) (n : Fin 3136) (j : Fin 57344) : EReal :=
  if h : j.val < 50000 then low E W n ⟨j.val, h⟩ else ⊤

/-- A column that stands for a row of the bank holds the patch's value for it. -/
theorem padded_inside (E : Vec Ideal S3136x384 .f32) (W : Vec Ideal S50000x384 .f32) (n : Fin 3136) (j : Fin 50000) (h : j.val < 57344) :
    padded E W n ⟨j.val, h⟩ = low E W n j := dif_pos j.isLt

/-- A column past the bank holds `⊤`. -/
theorem padded_outside (E : Vec Ideal S3136x384 .f32) (W : Vec Ideal S50000x384 .f32) (n : Fin 3136) (j : Fin 57344) (h : ¬ j.val < 50000) :
    padded E W n j = ⊤ := dif_neg h

/-- The row's new part at a lane, at the grid point of number `q`. -/
theorem new_at {E : Vec Ideal S3136x384 .f32} {W : Vec Ideal S50000x384 .f32} {n : Fin 3136} {x : Vec Ideal S1x386 .f32}
    (hx : IsPatch E n x) (i : grid1.Coords) (q : ℕ) (hi : (i 0).val = q) (b : Vec Ideal S8192x384 .f32) (l : Fin 8192) (j : Fin 57344)
    (hj : j.val = 8192 * q + l.val) (hb : ∀ (h : j.val < 50000) (k : Fin 384), b (ix2 l k) = W (ix2 ⟨j.val, h⟩ k)) :
    k1_pay2 (F := Ideal) i x b (ix2 0 l) = padded E W n j := by
  subst hi
  unfold padded
  by_cases h : j.val < 50000
  · rw [dif_pos h]
    have e : (⟨j.val, h⟩ : Fin 50000) = ⟨8192 * (i 0).val + l.val, hj ▸ h⟩ := Fin.ext hj
    rw [e]
    exact new_inside hx i b l (hj ▸ h) fun k => (hb h k).trans (congrArg (fun q => W (ix2 q k)) e)
  · rw [dif_neg h]
    exact new_outside x i b l (hj ▸ h)

/-- A put window read at a column: the payload inside, the old row outside. -/
theorem put_row (s : Vec Ideal S1x57344 .f32) (w : FVec Ideal S1x8192 .f32) (q : ℕ) (j : Fin 57344) :
    VecWindow.put s ![0, 8192 * q] S1x8192.size w (ix2 0 j)
      = if h : 8192 * q ≤ j.val ∧ j.val < 8192 * q + 8192 then w (ix2 0 ⟨j.val - 8192 * q, by omega⟩) else s (ix2 0 j) := by
  unfold VecWindow.put
  by_cases h : 8192 * q ≤ j.val ∧ j.val < 8192 * q + 8192
  · have h' : ∀ a : Fin 2, ![0, 8192 * q] a ≤ ((ix2 0 j : S1x57344.Idx) a).val
        ∧ ((ix2 0 j : S1x57344.Idx) a).val < ![0, 8192 * q] a + S1x8192.size a := fun a => match a with
      | ⟨0, _⟩ => ⟨Nat.zero_le _, Nat.zero_lt_one⟩
      | ⟨1, _⟩ => h
    rw [dif_pos h, dif_pos h']
    refine congrArg w (funext fun a => ?_)
    match a with
    | ⟨0, _⟩ => rfl
    | ⟨1, _⟩ => rfl
  · rw [dif_neg h, dif_neg fun h' => h (h' 1)]

/-- After `b` blocks the scratch row holds those values in the blocks' columns. -/
theorem reach_row (E : Vec Ideal S3136x384 .f32) (n : Fin 3136) (hx : IsPatch E n (operand V c)) :
    ∀ (b : ℕ) (s : Vec Ideal S1x57344 .f32), Reach V c b s → ∀ j : Fin 57344, j.val < 8192 * b → s (ix2 0 j) = padded E (arrW V c) n j
  | 0, s, _, j, hj => absurd hj (by omega)
  | b + 1, s, hs, j, hj => by
    obtain ⟨hb, s', d, hs', rfl⟩ := hs
    have hc : (grid1.coords ⟨b, hb⟩ 0).val = b := coord1 ⟨b, hb⟩
    have ho : k1_off1 (grid1.coords ⟨b, hb⟩) = ![0, 8192 * b] := by rw [k1_off1_eq, hc]
    unfold stored
    rw [ho, put_row]
    split
    · rename_i h
      refine new_at hx _ b hc _ _ j (by show j.val = 8192 * b + (j.val - 8192 * b); omega) fun hin k => ?_
      have hl : 8192 * b + (j.val - 8192 * b) = j.val := by omega
      exact (staged_W V c ⟨b, hb⟩ d ⟨j.val - 8192 * b, by omega⟩ k (hl ▸ hin)).trans
        (congrArg (fun q => arrW V c (ix2 q k)) (Fin.ext hl))
    · rename_i h
      exact reach_row E n hx b s' hs' j (by omega)

end Call

end Cert.KernelIdeal.Val

end
-- ==== Proof.Val.Ranks.lean ====
/-
  The element of a finite family that has a given number of elements below it: it is unique, monotone maps carry it over, and both
  a sorted listing and repeated removal of a least element find it.
-/
module

public import proofs.«01_k».proof.Proof.Val.Reals

@[expose] public section

noncomputable section

namespace Cert.Ranks

variable {ι κ : Type} [Fintype ι] [Fintype κ]

/-- How many elements of the family are below `x`. -/
def below (f : ι → EReal) (x : EReal) : ℕ := (Finset.univ.filter fun j => f j < x).card

/-- How many elements of the family are at most `x`. -/
def upTo (f : ι → EReal) (x : EReal) : ℕ := (Finset.univ.filter fun j => f j ≤ x).card

/-- The value `m` has rank `k` in the family, counted from zero: at most `k` elements are below it, more than `k` at most it. -/
def Rank (f : ι → EReal) (k : ℕ) (m : EReal) : Prop := below f m ≤ k ∧ k < upTo f m

/-- Two values of the same rank are equal. -/
theorem Rank.unique {f : ι → EReal} {k : ℕ} {m m' : EReal} (h : Rank f k m) (h' : Rank f k m') : m = m' := by
  have key : ∀ {a b : EReal}, Rank f k a → Rank f k b → ¬ a < b := fun {a b} ha hb hab => by
    have : upTo f a ≤ below f b := Finset.card_le_card fun j hj => by
      rw [Finset.mem_filter] at hj ⊢
      exact ⟨hj.1, hj.2.trans_lt hab⟩
    have h1 := ha.2
    have h2 := hb.1
    omega
  exact le_antisymm (not_lt.1 (key h' h)) (not_lt.1 (key h h'))

/-- A monotone map carries the value of a rank to the value of that rank. -/
theorem Rank.map {f : ι → EReal} {g : EReal → EReal} (hg : Monotone g) {k : ℕ} {m : EReal} (h : Rank f k m) :
    Rank (fun j => g (f j)) k (g m) := by
  refine ⟨le_trans (Finset.card_le_card fun j hj => ?_) h.1, lt_of_lt_of_le h.2 (Finset.card_le_card fun j hj => ?_)⟩
  · rw [Finset.mem_filter] at hj ⊢
    exact ⟨hj.1, hg.reflect_lt hj.2⟩
  · rw [Finset.mem_filter] at hj ⊢
    exact ⟨hj.1, hg hj.2⟩

/-- Further elements that are the greatest extended real do not change the values of the ranks. -/
theorem Rank.of_padded {f : ι → EReal} {t : κ → EReal} (e : κ ↪ ι) (he : ∀ j, f (e j) = t j)
    (hp : ∀ i, (∀ j, e j ≠ i) → f i = ⊤) {k : ℕ} (hk : k < Fintype.card κ) {m : EReal} (h : Rank f k m) : Rank t k m := by
  constructor
  · refine le_trans ?_ h.1
    rw [below, ← Finset.card_map e]
    refine Finset.card_le_card fun i hi => ?_
    obtain ⟨j, hj, rfl⟩ := Finset.mem_map.1 hi
    rw [Finset.mem_filter] at hj ⊢
    exact ⟨Finset.mem_univ _, (he j).trans_lt hj.2⟩
  · by_cases hm : m = ⊤
    · subst hm
      rwa [upTo, Finset.filter_true_of_mem (fun j _ => le_top), Finset.card_univ]
    · refine lt_of_lt_of_le h.2 ?_
      rw [upTo, upTo, ← Finset.card_map e]
      refine Finset.card_le_card fun i hi => ?_
      rw [Finset.mem_filter] at hi
      by_cases hr : ∃ j, e j = i
      · obtain ⟨j, rfl⟩ := hr
        exact Finset.mem_map_of_mem e (Finset.mem_filter.2 ⟨Finset.mem_univ _, (he j).symm.trans_le hi.2⟩)
      · exact absurd (top_le_iff.1 ((hp i fun j hj => hr ⟨j, hj⟩).symm.trans_le hi.2)) hm

/-- In a listing of the family in ascending order the element at place `k` has rank `k`. -/
theorem rank_of_sorted {n : ℕ} (f : Fin n → EReal) (σ : Fin n → Fin n) (hσ : Function.Surjective σ)
    (up : ∀ a b, a < b → f (σ a) ≤ f (σ b)) (k : Fin n) : Rank f k.val (f (σ k)) := by
  have inj : Function.Injective σ := Finite.injective_iff_surjective.2 hσ
  constructor
  · have hs : Finset.univ.filter (fun j => f j < f (σ k)) ⊆ (Finset.Iio k).map ⟨σ, inj⟩ := fun j hj => by
      obtain ⟨a, rfl⟩ := hσ j
      rw [Finset.mem_filter] at hj
      refine Finset.mem_map.2 ⟨a, Finset.mem_Iio.2 ?_, rfl⟩
      by_contra hka
      rcases eq_or_lt_of_le (not_lt.1 hka) with h | h
      · exact lt_irrefl _ (h ▸ hj.2)
      · exact absurd hj.2 (not_lt.2 (up _ _ h))
    have := Finset.card_le_card hs
    rwa [Finset.card_map, Fin.card_Iio] at this
  · have hs : (Finset.Iic k).map ⟨σ, inj⟩ ⊆ Finset.univ.filter (fun j => f j ≤ f (σ k)) := fun j hj => by
      obtain ⟨a, ha, rfl⟩ := Finset.mem_map.1 hj
      refine Finset.mem_filter.2 ⟨Finset.mem_univ _, ?_⟩
      rcases eq_or_lt_of_le (Finset.mem_Iic.1 ha) with h | h
      · exact le_of_eq (congrArg (fun b => f (σ b)) h)
      · exact up _ _ h
    have := Finset.card_le_card hs
    rw [Finset.card_map, Fin.card_Iic] at this
    exact this

variable [DecidableEq ι]

/-- Raising a least element to the greatest extended real takes one element from those below `x`, if there is any. -/
theorem below_removed (f : ι → EReal) (p : ι) (hp : ∀ j, f p ≤ f j) (x : EReal) :
    below (Function.update f p ⊤) x = below f x - 1 := by
  have e : (Finset.univ.filter fun j => Function.update f p ⊤ j < x) = (Finset.univ.filter fun j => f j < x).erase p := by
    ext j
    by_cases h : j = p
    · subst h; simp
    · simp [h]
  rw [below, below, e, Finset.card_erase_eq_ite]
  split
  · rfl
  · rename_i h
    have : (Finset.univ.filter fun j => f j < x) = ∅ := Finset.filter_eq_empty_iff.2 fun j _ hj =>
      h (Finset.mem_filter.2 ⟨Finset.mem_univ _, (hp j).trans_lt hj⟩)
    rw [this]; rfl

/-- The same of the elements at most `x`, for `x` below the greatest extended real. -/
theorem upTo_removed (f : ι → EReal) (p : ι) (hp : ∀ j, f p ≤ f j) (x : EReal) (hx : x < ⊤) :
    upTo (Function.update f p ⊤) x = upTo f x - 1 := by
  have e : (Finset.univ.filter fun j => Function.update f p ⊤ j ≤ x) = (Finset.univ.filter fun j => f j ≤ x).erase p := by
    ext j
    by_cases h : j = p
    · subst h; simp [hx.ne]
    · simp [h]
  rw [upTo, upTo, e, Finset.card_erase_eq_ite]
  split
  · rfl
  · rename_i h
    have : (Finset.univ.filter fun j => f j ≤ x) = ∅ := Finset.filter_eq_empty_iff.2 fun j _ hj =>
      h (Finset.mem_filter.2 ⟨Finset.mem_univ _, (hp j).trans hj⟩)
    rw [this]; rfl

/-- After `k` removals of a least element, the least element of what is left has rank `k` in the family removed from. -/
theorem rank_of_removals (row : ℕ → ι → EReal) (p : ℕ → ι) (least : ∀ k j, row k (p k) ≤ row k j)
    (next : ∀ k, row (k + 1) = Function.update (row k) (p k) ⊤) (k : ℕ) (hk : k < Fintype.card ι) :
    Rank (row 0) k (row k (p k)) := by
  have hb : ∀ k x, below (row k) x = below (row 0) x - k := fun k x => by
    induction k with
    | zero => rfl
    | succ k ih => rw [next, below_removed _ _ (least k), ih]; omega
  have hu : ∀ k x, x < ⊤ → upTo (row k) x = upTo (row 0) x - k := fun k x hx => by
    induction k with
    | zero => rfl
    | succ k ih => rw [next, upTo_removed _ _ (least k) x hx, ih]; omega
  constructor
  · have h0 : below (row k) (row k (p k)) = 0 := Finset.card_eq_zero.2 (Finset.filter_eq_empty_iff.2 fun j _ => not_lt.2 (least k j))
    have := hb k (row k (p k))
    omega
  · rcases eq_or_lt_of_le (le_top : row k (p k) ≤ ⊤) with h | h
    · rw [h, upTo, Finset.filter_true_of_mem (fun j _ => le_top), Finset.card_univ]
      exact hk
    · have h0 : 0 < upTo (row k) (row k (p k)) := Finset.card_pos.2 ⟨p k, Finset.mem_filter.2 ⟨Finset.mem_univ _, le_rfl⟩⟩
      have := hu k _ h
      omega

end Cert.Ranks

end
-- ==== Proof.Val.Chosen.lean ====
/-
  The patch of the greatest score, the first one on equal scores: the kernel's arg-max finds it, and so does the reference's sort.
-/
module

public import proofs.«01_k».proof.Proof.Val.Ref
public import proofs.«01_k».proof.Proof.Val.Ranks

@[expose] public section

set_option maxRecDepth 16384

noncomputable section

namespace Cert.Chosen

open Idealize.ShloMosaic

/-- Place `p` holds the greatest element of the family, and no earlier place does. -/
def First {n : ℕ} (f : Fin n → EReal) (p : Fin n) : Prop := ∀ j, f j ≤ f p ∧ (f j = f p → p ≤ j)

/-- There is one such place. -/
theorem First.unique {n : ℕ} {f : Fin n → EReal} {p q : Fin n} (hp : First f p) (hq : First f q) : p = q := by
  have e : f p = f q := le_antisymm (hq p).1 (hp q).1
  exact le_antisymm ((hp q).2 e.symm) ((hq p).2 e)

/-- A stable sort, greatest first, of an ascending list of places starts with the first place of the greatest element. -/
theorem stableSort_first {n : ℕ} (f : Fin n → EReal) (R : Fin n → Fin n → Bool) (hR : ∀ a b, R a b = true ↔ f b < f a) :
    ∀ (l : List (Fin n)), l.Pairwise (· < ·) → ∀ b r, stableSort R l = b :: r → ∀ c ∈ l, f c ≤ f b ∧ (f c = f b → b ≤ c)
  | [], _, b, r, h, c, hc => absurd hc List.not_mem_nil
  | a :: l, hl, b, r, h, c, hc => by
    obtain ⟨ha, hl⟩ := List.pairwise_cons.1 hl
    rw [stableSort] at h
    rcases hs : stableSort R l with _ | ⟨d, t⟩
    · have hl0 : l = [] := List.length_eq_zero_iff.1 ((perm_stableSort R l).length_eq.symm.trans (by rw [hs]; rfl))
      rw [hs] at h
      have hb : a = b := (List.cons.inj h).1
      rw [hl0] at hc
      rw [List.mem_singleton.1 hc, hb]
      exact ⟨le_rfl, fun _ => le_rfl⟩
    · have ih := stableSort_first f R hR l hl d t hs
      have hd : d ∈ l := (perm_stableSort R l).mem_iff.1 (hs ▸ List.mem_cons_self)
      rw [hs, insertBefore] at h
      by_cases hda : R d a = true
      · rw [if_pos hda] at h
        have hb : d = b := (List.cons.inj h).1
        have hlt := (hR d a).1 hda
        rcases List.mem_cons.1 hc with rfl | hc
        · rw [← hb]
          exact ⟨hlt.le, fun e => absurd hlt (e ▸ lt_irrefl _)⟩
        · exact hb ▸ ih c hc
      · rw [if_neg hda] at h
        have hb : a = b := (List.cons.inj h).1
        have hle : f d ≤ f a := not_lt.1 fun h' => hda ((hR d a).2 h')
        rw [← hb]
        rcases List.mem_cons.1 hc with rfl | hc
        · exact ⟨le_rfl, fun _ => le_rfl⟩
        · exact ⟨(ih c hc).1.trans hle, fun _ => (ha c hc).le⟩

/-- The first place of a stable sort, greatest first, is the first place of the greatest element. -/
theorem sortedFrom_first {n : ℕ} (f : Fin (n + 1) → EReal) (R : Fin (n + 1) → Fin (n + 1) → Bool) (hR : ∀ a b, R a b = true ↔ f b < f a) :
    First f (sortedFrom R 0) := fun j => by
  rcases hs : sortPositions (n + 1) R with _ | ⟨b, r⟩
  · exact absurd ((length_sortPositions (n + 1) R).symm.trans (congrArg List.length hs)) (Nat.succ_ne_zero n)
  · have e : sortedFrom R 0 = b := by
      unfold sortedFrom
      rw [List.get_of_eq hs]
      rfl
    rw [e]
    exact stableSort_first f R hR _ (List.pairwise_lt_finRange _) b r hs j (List.mem_finRange j)

/-! ## The kernel's arg-max -/

open Cert.KernelIdeal in
/-- One step of the arg-max: the later element replaces the earlier one if it is greater. -/
theorem argmax_step (a b : EReal) (p q : ℕ) (hpq : p < q) (hq : q < 2 ^ 31) :
    reducer_argmax_f32_i32 (F := Ideal) (a, BitVec.ofNat 32 p) (b, BitVec.ofNat 32 q)
      = if b ≤ a then (a, BitVec.ofNat 32 p) else (b, BitVec.ofNat 32 q) := by
  have hs : IntOp.cmpi .slt (BitVec.ofNat 32 p) (BitVec.ofNat 32 q) = 1#1 := (WordCmp.cmpi_slt_ofNat_eq_one_iff (by omega) (by omega)).2 hpq
  unfold reducer_argmax_f32_i32
  simp only [Ideal.cmpf_def, Ideal.cmp, hs]
  rcases lt_trichotomy a b with h | h | h
  · simp [h, h.not_gt, h.ne, h.not_ge, Scalar.select, IntOp.ori, IntOp.andi]
  · simp [h, Scalar.select, IntOp.ori, IntOp.andi]
  · simp [h, h.le, h.not_gt, h.ne', Scalar.select, IntOp.ori, IntOp.andi]

open Cert.KernelIdeal in
/-- The arg-max along an ascending list of places, from a place before them all, ends at the first place of the greatest element. -/
theorem argmax_fold {n : ℕ} (hn : n ≤ 2 ^ 31) (f : Fin n → EReal) : ∀ (l : List (Fin n)), l.Pairwise (· < ·) → ∀ p : Fin n, (∀ a ∈ l, p < a) →
    ∃ q : Fin n, (q = p ∨ q ∈ l) ∧ l.foldl (fun r a => reducer_argmax_f32_i32 (F := Ideal) r (f a, BitVec.ofNat 32 a.val)) (f p, BitVec.ofNat 32 p.val) = (f q, BitVec.ofNat 32 q.val)
      ∧ ∀ j, (j = p ∨ j ∈ l) → f j ≤ f q ∧ (f j = f q → q ≤ j)
  | [], _, p, _ => ⟨p, .inl rfl, rfl, fun j hj => by
      rcases hj with rfl | hj
      · exact ⟨le_rfl, fun _ => le_rfl⟩
      · exact absurd hj List.not_mem_nil⟩
  | a :: l, hl, p, hp => by
    obtain ⟨ha, hl⟩ := List.pairwise_cons.1 hl
    have hpa : p < a := hp a List.mem_cons_self
    rw [List.foldl_cons, argmax_step _ _ _ _ hpa (by omega)]
    by_cases h : f a ≤ f p
    · rw [if_pos h]
      obtain ⟨q, h1, h2, h3⟩ := argmax_fold hn f l hl p fun b hb => hp b (List.mem_cons_of_mem a hb)
      refine ⟨q, h1.imp_right (List.mem_cons_of_mem a), h2, fun j hj => ?_⟩
      rcases hj with rfl | hj
      · exact h3 j (.inl rfl)
      · rcases List.mem_cons.1 hj with rfl | hj
        · have hpq := h3 p (.inl rfl)
          exact ⟨h.trans hpq.1, fun e => (hpq.2 (le_antisymm hpq.1 (e ▸ h))).trans hpa.le⟩
        · exact h3 j (.inr hj)
    · rw [if_neg h]
      obtain ⟨q, h1, h2, h3⟩ := argmax_fold hn f l hl a ha
      refine ⟨q, .inr (List.mem_cons.2 h1), h2, fun j hj => ?_⟩
      rcases hj with rfl | hj
      · have haq := h3 a (.inl rfl)
        have hlt := (not_le.1 h).trans_le haq.1
        exact ⟨hlt.le, fun e => absurd hlt (e ▸ lt_irrefl _)⟩
      · exact h3 j (List.mem_cons.1 hj)

open Cert.KernelIdeal in
/-- The kernel's arg-max of a list of scores is the first place of the greatest. -/
theorem argmax_first (x : FVec Ideal S3136 .f32) (hr : S3136.ReducesTo [0] S_) (hu : 0 < S_.numel) : ∃ p : Fin 3136, First (fun n => x (ix1 n)) p
    ∧ ∀ j, (Host.argReduce (reducer_argmax_f32_i32 (F := Ideal)) x (iotaInDim S3136 32 0) (constant (F := Ideal) S_ .f32 0xFF800000#32)
      (constantI S_ 32 0#32) hr hu j).2 = BitVec.ofNat 32 p.val := by
  let f : Fin 3136 → EReal := fun n => x (ix1 n)
  obtain ⟨q, -, h2, h3⟩ := argmax_fold (by decide) f ((List.finRange 3135).map Fin.succ)
    (List.pairwise_map.2 ((List.pairwise_lt_finRange 3135).imp fun h => Fin.succ_lt_succ_iff.2 h)) 0 (fun a ha => by
      obtain ⟨b, -, rfl⟩ := List.mem_map.1 ha
      exact Fin.succ_pos b)
  refine ⟨q, fun j => h3 j ?_, fun j => ?_⟩
  · rcases Fin.eq_zero_or_eq_succ j with h | ⟨i, h⟩
    · exact .inl h
    · exact .inr (List.mem_map.2 ⟨i, List.mem_finRange i, h.symm⟩)
  · rw [Ideal.argReduce_eq_reduce2]
    have e0 : reducer_argmax_f32_i32 (F := Ideal) (⊥, 0#32) (f 0, 0#32) = (f 0, 0#32) := by
      unfold reducer_argmax_f32_i32
      have hs : IntOp.cmpi .slt (0#32) (0#32) = 0#1 := rfl
      simp [Ideal.cmpf_def, Ideal.cmp, hs, Scalar.select, IntOp.ori, IntOp.andi]
    have e : Host.reduce2 (reducer_argmax_f32_i32 (F := Ideal)) x (iotaInDim S3136 32 0) (constant (F := Ideal) S_ .f32 0xFF800000#32)
        (constantI S_ 32 0#32) hr hu j
          = (List.finRange 3136).foldl (fun r a => reducer_argmax_f32_i32 (F := Ideal) r (f a, BitVec.ofNat 32 a.val)) (⊥, 0#32) := by
      have hn : S3136.numel = 3136 := by decide
      have at_ : ∀ n : Fin S3136.numel, S3136.rowMajor.symm n = ix1 ⟨n.val, hn ▸ n.isLt⟩ := fun n => by
        funext a
        match a with
        | ⟨0, _⟩ =>
          refine Fin.ext ?_
          have h := Shape.rowMajor_val_one (S3136.rowMajor.symm n)
          rw [Equiv.apply_symm_apply] at h
          exact h.symm
      unfold Host.reduce2
      rw [List.filter_eq_self.2 fun n _ => decide_eq_true (funext fun a => a.elim0)]
      have e1 : constant (F := Ideal) S_ .f32 0xFF800000#32 (Shape.Idx.first hu) = (⊥ : EReal) := by
        show Ideal.ofBits .f32 0xFF800000#32 = ⊥
        simp [Ideal.ofBits, Ideal.ieee]
      rw [e1]
      simp only [at_]
      rfl
    rw [e, List.finRange_succ, List.foldl_cons]
    rw [show reducer_argmax_f32_i32 (F := Ideal) (⊥, 0#32) (f 0, BitVec.ofNat 32 (0 : Fin 3136).val) = (f 0, BitVec.ofNat 32 (0 : Fin 3136).val) from e0, h2]

/-- A place is not negative, so the start taken from it is the place itself. -/
theorem start_at {s : Shape} (p : Fin 3136) (i : IVec s 32) (hi : ∀ j, i j = BitVec.ofNat 32 p.val) (j : s.Idx) :
    (select (cmpi .slt i (constantI s 32 0#32)) (addi i (constantI s 32 3136#32)) i : IVec s 32) j = BitVec.ofNat 32 p.val := by
  have h : IntOp.cmpi .slt (BitVec.ofNat 32 p.val) 0#32 = 0#1 := (WordCmp.cmpi_slt_ofNat_eq_zero_iff (by omega) (by omega)).mpr (by omega)
  show Scalar.select (IntOp.cmpi .slt (i j) 0#32) _ (i j) = _
  rw [hi j, h]
  rfl

/-- A place as a signed word. -/
theorem toInt_place (p : Fin 3136) : (BitVec.ofNat 32 p.val).toInt = p.val := by
  have e : (BitVec.ofNat 32 p.val).toNat = p.val := Nat.mod_eq_of_lt (by omega)
  rw [BitVec.toInt_eq_toNat_of_lt (by rw [e]; omega), e]

/-- One whole row cut out of an array at a row and column that need no clamping. -/
theorem row_cut {m : ℕ} {α : Type} (x : (⟨2, ![3136, m]⟩ : Shape).Idx → α) (start : Fin 2 → Int) (h : (⟨2, ![3136, m]⟩ : Shape).Slices (fun _ => 0) ⟨2, ![1, m]⟩)
    (p : Fin 3136) (h0 : start 0 = p.val) (h1 : start 1 = 0) (k : Fin m) : Host.dynamicSlice ⟨2, ![1, m]⟩ x start h (ix2 0 k) = x (ix2 p k) := by
  have c0 : Host.clampedStart ⟨2, ![3136, m]⟩ ⟨2, ![1, m]⟩ h.1 start 0 = p.val := Host.clampedStart_of_le h.1 start 0 p.val h0 (by
    show p.val + 1 ≤ 3136
    omega)
  have c1 : Host.clampedStart ⟨2, ![3136, m]⟩ ⟨2, ![1, m]⟩ h.1 start 1 = 0 := Host.clampedStart_of_le h.1 start 1 0 h1 (by
    show 0 + m ≤ m
    omega)
  rw [Host.dynamicSlice_apply]
  refine congrArg x (funext fun a => ?_)
  match a with
  | 0 => exact Fin.ext (congrArg (· + 0) c0)
  | 1 => exact Fin.ext ((congrArg (· + k.val) c1).trans (Nat.zero_add _))

end Cert.Chosen

end
-- ==== Proof.Val.Operand.lean ====
/-
  The second call's operand row: the patch of the greatest score, followed by minus one twice.
-/
module

public import proofs.«01_k».proof.Proof.KI.Run
public import proofs.«01_k».proof.Proof.Val.Row
public import proofs.«01_k».proof.Proof.Val.Chosen
public import Idealize.ShloMosaic.Lib.StableHlo.RunRead

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo
open Idealize.SL.Sem

/-- The row the host cuts out of the embedding at place `i`, followed by minus one twice. -/
def cutRow (x : Vec Ideal S3136x384 .f32) (i : IVec S_ 32) : Vec Ideal S1x386 .f32 :=
  concatenate S1x386 1 [⟨S1x384, Host.dynamicSlice S1x384 x (fun k => ((![select (cmpi .slt i (constantI S_ 32 0#32)) (addi i (constantI S_ 32 3136#32)) i,
      constantI S_ 32 0#32] : Fin 2 → IVec S_ 32) k (Shape.Idx.first h_S_)).toInt) sliceFits_S3136x384_S1x384⟩,
    ⟨S1x2, broadcastInDim S1x2 ![] bcast_S_S1x2 (constant (F := Ideal) S_ .f32 0xBF800000#32)⟩] concatenates_S1x384_S1x2_S1x386_d1

/-- The place and the column the host hands the cut. -/
theorem starts_eq (V : Valuation τ sig (Elt Ideal)) :
    (show IVec S_ 32 from after (hostOps1_2.take 6) V main_v5) = select (cmpi .slt (V main_v2 : IVec S_ 32) (constantI S_ 32 0#32)) (addi (V main_v2 : IVec S_ 32) (constantI S_ 32 3136#32)) (V main_v2 : IVec S_ 32)
      ∧ (show IVec S_ 32 from after (hostOps1_2.take 6) V main_c_1) = constantI S_ 32 0#32
      ∧ (show Vec Ideal S3136x384 .f32 from after (hostOps1_2.take 6) V main_arg0) = V main_arg0 := by
  simp only [hostOps1_2, List.take_succ_cons, List.take_zero]
  refine ⟨?_, ?_, ?_⟩
  · after_reads_simp
  · after_reads_simp
  · after_reads_simp

/-- What the host cuts out. -/
theorem cut_eq (V : Valuation τ sig (Elt Ideal)) :
    (show Vec Ideal S1x384 .f32 from after ((hostOps1_2.drop 6).take 1) V main_v6)
      = Host.dynamicSlice S1x384 (V main_arg0 : Vec Ideal S3136x384 .f32) (fun k => ((![V main_v5, V main_c_1] : Fin 2 → IVec S_ 32) k (Shape.Idx.first h_S_)).toInt) sliceFits_S3136x384_S1x384 := by
  simp only [hostOps1_2, List.drop_succ_cons, List.drop_zero, List.take_succ_cons, List.take_zero, after_cons, after_nil]
  refine (unaryIndexed_result _ _ _ _ _ _ _ _ _ V).trans (congrArg (fun st : Fin 2 → Int => Host.dynamicSlice S1x384 (V main_arg0 : Vec Ideal S3136x384 .f32) st sliceFits_S3136x384_S1x384) (funext fun k => ?_))
  match k with
  | 0 => rfl
  | 1 => rfl

/-- What the host joins to the row that was cut. -/
theorem joined_eq (V : Valuation τ sig (Elt Ideal)) :
    (show Vec Ideal S1x386 .f32 from after ((hostOps1_2.drop 6).drop 1) V main_v8) = concatenate S1x386 1 [⟨S1x384, (V main_v6 : Vec Ideal S1x384 .f32)⟩,
      ⟨S1x2, broadcastInDim S1x2 ![] bcast_S_S1x2 (constant (F := Ideal) S_ .f32 0xBF800000#32)⟩] concatenates_S1x384_S1x2_S1x386_d1 := by
  simp only [hostOps1_2, List.drop_succ_cons, List.drop_zero]
  have h6 : (show Vec Ideal S1x384 .f32 from after ((hostOps1_2.drop 7).take 2) V main_v6) = V main_v6 := by
    simp only [hostOps1_2, List.drop_succ_cons, List.drop_zero, List.take_succ_cons, List.take_zero]
    after_reads_simp
  have h7 : (show Vec Ideal S1x2 .f32 from after ((hostOps1_2.drop 7).take 2) V main_v7) = broadcastInDim S1x2 ![] bcast_S_S1x2 (constant (F := Ideal) S_ .f32 0xBF800000#32) := by
    simp only [hostOps1_2, List.drop_succ_cons, List.drop_zero, List.take_succ_cons, List.take_zero]
    after_reads_simp
  exact congrArg₂ (fun (a : Vec Ideal S1x384 .f32) (b : Vec Ideal S1x2 .f32) => (concatenate S1x386 1 [⟨S1x384, a⟩, ⟨S1x2, b⟩] concatenates_S1x384_S1x2_S1x386_d1 : Vec Ideal S1x386 .f32)) h6 h7

/-- A line run in two parts. -/
theorem after_parts (l : List (HloOp τ sig (Elt Ideal))) (k : ℕ) (V : Valuation τ sig (Elt Ideal)) : after l V = after (l.drop k) (after (l.take k) V) := by
  induction l generalizing k V with
  | nil => simp
  | cons op l ih =>
    cases k with
    | zero => rfl
    | succ k => exact ih k _

/-- What the host operations before the second call compute of the row. -/
theorem v8_eq (V : Valuation τ sig (Elt Ideal)) :
    (show Vec Ideal S1x386 .f32 from after hostOps1_2 V main_v8) = cutRow (V main_arg0) (V main_v2) := by
  obtain ⟨h1, h2, h3⟩ := starts_eq V
  rw [after_parts hostOps1_2 6 V]
  generalize after (hostOps1_2.take 6) V = V1 at h1 h2 h3 ⊢
  rw [after_parts (hostOps1_2.drop 6) 1 V1]
  refine (joined_eq _).trans ?_
  unfold cutRow
  refine congrArg (fun a : Vec Ideal S1x384 .f32 => (concatenate S1x386 1 [⟨S1x384, a⟩, ⟨S1x2, broadcastInDim S1x2 ![] bcast_S_S1x2 (constant (F := Ideal) S_ .f32 0xBF800000#32)⟩]
    concatenates_S1x384_S1x2_S1x386_d1 : Vec Ideal S1x386 .f32)) ((cut_eq V1).trans ?_)
  dsimp only at h1 h2 h3
  rw [h1, h2, h3]
  rfl

/-- What they compute of the place. -/
theorem v2_eq (V : Valuation τ sig (Elt Ideal)) (j : S_.Idx) :
    (show IVec S_ 32 from after hostOps1_1 V main_v2) j = (Host.argReduce (reducer_argmax_f32_i32 (F := Ideal)) (show FVec Ideal S3136 .f32 from V main_v1) (iotaInDim S3136 32 0) (constant (F := Ideal) S_ .f32 0xFF800000#32)
      (constantI S_ 32 0#32) reducesTo_S3136_S_d0 h_S_ j).2 := by
  after_reads_simp
  rfl

/-- The word of minus one. -/
theorem minus_one : Ideal.ofBits .f32 0xBF800000#32 = ((-1 : ℝ) : EReal) := by
  simp [Ideal.ofBits, Ideal.ieee, -EReal.coe_mul, -EReal.coe_neg]; norm_num

/-- The row cut out at patch `p`, with what follows it, is that patch's operand row. -/
theorem cutRow_patch (x : Vec Ideal S3136x384 .f32) (p : Fin 3136) (i : IVec S_ 32) (hi : ∀ j, i j = BitVec.ofNat 32 p.val) :
    IsPatch x p (cutRow x i) := by
  have hr := Cert.Chosen.row_cut x (fun k => ((![select (cmpi .slt i (constantI S_ 32 0#32)) (addi i (constantI S_ 32 3136#32)) i,
    constantI S_ 32 0#32] : Fin 2 → IVec S_ 32) k (Shape.Idx.first h_S_)).toInt) sliceFits_S3136x384_S1x384 p
    ((congrArg BitVec.toInt (Cert.Chosen.start_at p i hi _)).trans (Cert.Chosen.toInt_place p)) rfl
  have hs : ∀ k : Fin 386, cutRow x i (ix2 0 k) = if h : k.val < 384 then x (ix2 p ⟨k.val, h⟩) else Ideal.ofBits .f32 0xBF800000#32 := fun k => by
    unfold cutRow
    generalize (Host.dynamicSlice S1x384 x _ sliceFits_S3136x384_S1x384 : Vec Ideal S1x384 .f32) = y at hr ⊢
    pointwise
    by_cases h : k.val < 384
    · rw [dif_pos h, dif_pos h]
      exact hr ⟨k.val, h⟩
    · rw [dif_neg h, dif_neg h]
  refine ⟨fun k => ?_, ?_, ?_⟩
  · exact (hs _).trans (dif_pos k.isLt)
  · exact (hs _).trans ((dif_neg (lt_irrefl 384)).trans minus_one)
  · exact (hs _).trans ((dif_neg (by decide)).trans minus_one)

/-- The operand row's block, whatever the point, is the whole row. -/
theorem index1_0 : ∀ t : Fin cfg1.N, win1_0.index t = ![0, 0] := (by decide +kernel : ∀ t : Fin grid1.N, _)

/-- The operand row is what the host left for the call. -/
theorem operand_apply (V : Dev nD → Valuation τ sig (Elt Ideal)) (c : Dev nD) (k : Fin 386) :
    operand V c (ix2 0 k) = (show Vec Ideal S1x386 .f32 from V c main_v8) (ix2 0 k) := by
  unfold operand
  blk_simp [blk1]
  refine congrArg (show Vec Ideal S1x386 .f32 from V c main_v8) ?_
  blk_ext [index1_0]

/-- The second call's operand row, as the call finds it, is the patch of the greatest first score. -/
theorem operand_patch (m : (ℓ : Loc nD τ sig) → Buf (Elt Ideal) ℓ) (c : Dev nD) : ∃ p : Fin 3136,
    Cert.Chosen.First (fun n => dist0 (V0 m) c (ix2 0 n)) p ∧ IsPatch (arrE (V0 m) c) p (operand (V4 m (outsA m)) c) := by
  have e1 : ∀ n : Fin 3136, (show Vec Ideal S3136 .f32 from V2 m (outsA m) c main_v1) (ix1 n) = dist0 (V0 m) c (ix2 0 n) := fun n => by
    have : (show Vec Ideal S3136 .f32 from V2 m (outsA m) c main_v1) (ix1 n) = (show Vec Ideal S1x3136 .f32 from V1 m (outsA m) c main_v0) (ix2 0 n) := by
      unfold V2
      generalize V1 m (outsA m) c = V'
      after_reads_simp
      pointwise
    rw [this, V1_self]
    exact congrFun (arr0_eq (V0 m) c) _
  obtain ⟨p, hp, hi⟩ := Cert.Chosen.argmax_first (show FVec Ideal S3136 .f32 from V2 m (outsA m) c main_v1) reducesTo_S3136_S_d0 h_S_
  refine ⟨p, (funext e1 : _ = _) ▸ hp, ?_⟩
  have e2 : ∀ j, (show IVec S_ 32 from V3 m (outsA m) c main_v2) j = BitVec.ofNat 32 p.val := fun j => (v2_eq (V2 m (outsA m) c) j).trans (hi j)
  suffices h : IsPatch (arrE (V0 m) c) p (show Vec Ideal S1x386 .f32 from V4 m (outsA m) c main_v8) from
    ⟨fun k => (operand_apply _ c _).trans (h.1 k), (operand_apply _ c _).trans h.2.1, (operand_apply _ c _).trans h.2.2⟩
  rw [V4, v8_eq]
  rw [show (V3 m (outsA m) c main_arg0 : Vec Ideal S3136x384 .f32) = arrE (V0 m) c from by
    rw [V3_of m (outsA m) c main_arg0 (by decide), V2_of m (outsA m) c main_arg0 (by decide), V1_off m c main_arg0 (by decide)]]
  exact cutRow_patch _ p _ e2

end Cert.KernelIdeal.Val

end
-- ==== Proof.Val.Top.lean ====
/-
  The second call's score: its nine extractions from the scratch row, and the formula over the nine distances.
-/
module

public import proofs.«01_k».proof.Proof.Val.Row
public import proofs.«01_k».proof.Proof.Val.Ranks

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Idealize.SL.Sem

/-! ## One extraction -/

/-- The least of finitely many words, read as signed integers: one of them, and at most each of them. -/
theorem fold_minsi {ι : Type} [DecidableEq ι] (u : BitVec 32) (f : ι → BitVec 32) (S : Finset ι) :
    (Finset.fold IntOp.minsi u f S = u ∨ ∃ x ∈ S, Finset.fold IntOp.minsi u f S = f x)
      ∧ ∀ x ∈ S, (Finset.fold IntOp.minsi u f S).toInt ≤ (f x).toInt := by
  induction S using Finset.induction_on with
  | empty => exact ⟨.inl rfl, fun x hx => absurd hx (Finset.notMem_empty x)⟩
  | insert a S ha ih =>
    rw [Finset.fold_insert ha]
    generalize Finset.fold IntOp.minsi u f S = r at ih ⊢
    obtain ⟨h1, h2⟩ := ih
    by_cases hlt : (f a).toInt < r.toInt
    · have e : IntOp.minsi (f a) r = f a := by unfold IntOp.minsi; rw [if_pos (by rw [BitVec.slt]; exact decide_eq_true hlt)]
      rw [e]
      refine ⟨.inr ⟨a, Finset.mem_insert_self a S, rfl⟩, fun x hx => ?_⟩
      rcases Finset.mem_insert.1 hx with rfl | hx
      · exact le_rfl
      · exact hlt.le.trans (h2 x hx)
    · have e : IntOp.minsi (f a) r = r := by
        unfold IntOp.minsi; rw [if_neg (by rw [BitVec.slt, decide_eq_true_eq]; exact hlt)]
      rw [e]
      refine ⟨h1.imp_right fun ⟨x, hx, h⟩ => ⟨x, Finset.mem_insert_of_mem hx, h⟩, fun x hx => ?_⟩
      rcases Finset.mem_insert.1 hx with rfl | hx
      · exact not_lt.1 hlt
      · exact h2 x hx

/-- The least element of a row. -/
theorem pay5_apply (s : Vec Ideal S1x57344 .f32) :
    k1_pay5 (F := Ideal) s (ix2 0 0) = Finset.fold min ⊤ (fun j : Fin 57344 => s (ix2 0 j)) Finset.univ := by
  pointwise [k1_pay5, multiReduction_minimumf_eq_reduceFold, Shape.Reduces.fold_fiber_r2_a1]
  rw [Cert.Reals.inf_f32]

/-- It is below every element, and one of them. -/
theorem pay5_least (s : Vec Ideal S1x57344 .f32) :
    (∀ j : Fin 57344, k1_pay5 (F := Ideal) s (ix2 0 0) ≤ s (ix2 0 j)) ∧ ∃ j : Fin 57344, s (ix2 0 j) = k1_pay5 (F := Ideal) s (ix2 0 0) := by
  rw [pay5_apply]
  have low : ∀ j : Fin 57344, Finset.fold min ⊤ (fun j : Fin 57344 => s (ix2 0 j)) Finset.univ ≤ s (ix2 0 j) := fun j =>
    ((Finset.le_fold_min _).1 (le_refl _)).2 j (Finset.mem_univ _)
  refine ⟨low, ?_⟩
  rcases (Finset.fold_min_le _).1 (le_refl (Finset.fold min ⊤ (fun j : Fin 57344 => s (ix2 0 j)) Finset.univ)) with h | ⟨j, -, h⟩
  · have h' := top_le_iff.1 h
    exact ⟨0, le_antisymm (h'.symm ▸ le_top) (low 0)⟩
  · exact ⟨j, le_antisymm h (low j)⟩

/-- One extraction raises a least element of the row to `⊤` and leaves the others. -/
theorem extraction (s : Vec Ideal S1x57344 .f32) : ∃ p : Fin 57344, k1_pay5 (F := Ideal) s (ix2 0 0) = s (ix2 0 p)
    ∧ (fun j : Fin 57344 => k1_pay6 (F := Ideal) s (ix2 0 j)) = Function.update (fun j : Fin 57344 => s (ix2 0 j)) p ⊤ := by
  obtain ⟨-, q, hq⟩ := pay5_least s
  let f : Fin 57344 → BitVec 32 := fun x => if s (ix2 0 x) = k1_pay5 (F := Ideal) s (ix2 0 0) then BitVec.ofNat 32 x.val else 57344#32
  have hint : ∀ a : ℕ, a ≤ 57344 → (BitVec.ofNat 32 a).toInt = a := fun a ha => by
    rw [BitVec.toInt_eq_toNat_of_lt (by rw [BitVec.toNat_ofNat]; omega), BitVec.toNat_ofNat]
    omega
  have hf := fold_minsi 2147483647#32 f Finset.univ
  have hle : (Finset.fold IntOp.minsi 2147483647#32 f Finset.univ).toInt < 57344 := by
    refine (hf.2 q (Finset.mem_univ _)).trans_lt ?_
    rw [show f q = BitVec.ofNat 32 q.val from if_pos hq, hint _ (by omega)]
    exact_mod_cast q.isLt
  obtain ⟨p, hp, hfp⟩ : ∃ p : Fin 57344, s (ix2 0 p) = k1_pay5 (F := Ideal) s (ix2 0 0)
      ∧ Finset.fold IntOp.minsi 2147483647#32 f Finset.univ = BitVec.ofNat 32 p.val := by
    rcases hf.1 with h | ⟨p, -, h⟩
    · rw [h] at hle
      exact absurd hle (by decide)
    · by_cases hs : s (ix2 0 p) = k1_pay5 (F := Ideal) s (ix2 0 0)
      · exact ⟨p, hs, h.trans (if_pos hs)⟩
      · rw [h, show f p = 57344#32 from if_neg hs] at hle
        exact absurd hle (by decide)
  refine ⟨p, hp.symm, funext fun j => ?_⟩
  pointwise [k1_pay6]
  rw [show Finset.fold IntOp.minsi 2147483647#32 _ Finset.univ = _ from hfp, Cert.Reals.inf_f32]
  by_cases h : j = p
  · subst h
    rw [Function.update_self]
    rw [(WordCmp.cmpi_eq_ofNat_eq_one_iff (w := 32) (by omega) (by omega)).2 rfl]
    rfl
  · rw [Function.update_of_ne h]
    rw [(WordCmp.cmpi_eq_ofNat_eq_zero_iff (w := 32) (by omega) (by omega)).2 fun e => h (Fin.ext e)]
    rfl

/-! ## The score -/

/-- The scratch row after `k` extractions. -/
def left (s : Vec Ideal S1x57344 .f32) : ℕ → Vec Ideal S1x57344 .f32
  | 0 => s
  | k + 1 => k1_pay6 (left s k)

/-- The distance computed from the scratch row after `k` extractions. -/
def root (x : Vec Ideal S1x386 .f32) (s : Vec Ideal S1x57344 .f32) (k : ℕ) : FVec Ideal S1x1 .f32 :=
  k1_pay7 (F := Ideal) (k1_pay1 x) (left s k)

/-- The score is a formula over the nine distances. -/
theorem score_eq (x : Vec Ideal S1x386 .f32) (s : Vec Ideal S1x57344 .f32) :
    Cert.KernelIdeal.Hand.score (F := Ideal) x s = k1_pay3 (k1_pay4 (k1_pay1 x)) (root x s 0) (root x s 1) (root x s 2) (root x s 3) (root x s 4) (root x s 5)
      (root x s 6) (root x s 7) (k1_pay5 (F := Ideal) (left s 8)) := rfl

/-- A distance computed from the least element of what is left of the row. -/
theorem root_apply (x : Vec Ideal S1x386 .f32) (s : Vec Ideal S1x57344 .f32) (k : ℕ) : root x s k (ix2 0 0)
    = Ideal.sqrt (max (k1_pay4 (F := Ideal) (k1_pay1 x) (ix2 0 0) + k1_pay5 (F := Ideal) (left s k) (ix2 0 0)) (Ideal.ofBits .f32 0x2B8CBCCC#32)) := by
  pointwise [root, k1_pay7]

/-- The formula of the score, over nine numbers: the weight of the last against all of them, times the first. -/
def weighted (c : Fin 9 → EReal) : EReal := (1 - Ideal.div (Ideal.exp (c 8)) (∑ k, Ideal.exp (c k))) * c 0

/-- The score, of the nine distances. -/
theorem score_apply (x : Vec Ideal S1x386 .f32) (s : Vec Ideal S1x57344 .f32) :
    Cert.KernelIdeal.Hand.score (F := Ideal) x s (ix2 0 0) = weighted fun k => root x s k.val (ix2 0 0) := by
  rw [score_eq]
  unfold weighted
  simp only [Fin.sum_univ_castSucc, Fin.sum_univ_zero, zero_add]
  rw [show root x s (8 : Fin 9).val (ix2 0 0) = _ from root_apply x s 8, show root x s (Fin.last 8).val (ix2 0 0) = _ from root_apply x s 8]
  pointwise [k1_pay3]
  rw [mul_zero, zero_add]
  rfl

/-- The norm of the operand row, less two. -/
theorem norm_apply {E : Vec Ideal S3136x384 .f32} {n : Fin 3136} {x : Vec Ideal S1x386 .f32} (hx : IsPatch E n x) :
    k1_pay4 (F := Ideal) (k1_pay1 x) (ix2 0 0)
      = normE E n + ((-1 : ℝ) : EReal) * ((-1 : ℝ) : EReal) + ((-1 : ℝ) : EReal) * ((-1 : ℝ) : EReal) - ((2 : ℝ) : EReal) := by
  pointwise [k1_pay4, k1_pay1]
  rw [Cert.Reals.two_f32, Fin.sum_univ_castSucc, Fin.sum_univ_castSucc]
  simp only [hx.1]
  rw [show x (ix2 0 (Fin.castSucc (Fin.last 384))) = _ from hx.2.1, show x (ix2 0 (Fin.last 385)) = _ from hx.2.2]
  rfl

/-- The `k`-th distance computed is the patch's distance of rank `k`, if the bank's rows have finite norms and the scratch row holds the patch's values. -/
theorem root_rank (E : Vec Ideal S3136x384 .f32) (W : Vec Ideal S50000x384 .f32) (n : Fin 3136) (x : Vec Ideal S1x386 .f32)
    (s : Vec Ideal S1x57344 .f32) (hx : IsPatch E n x) (hs : ∀ j, s (ix2 0 j) = padded E W n j)
    (hw : ∀ j, ∃ r : ℝ, normW W j = (r : EReal)) (k : ℕ) (hk : k < 9) : Cert.Ranks.Rank (dist E W n) k (root x s k (ix2 0 0)) := by
  choose p hp hn using extraction
  have h1 := Cert.Ranks.rank_of_removals (fun k j => left s k (ix2 0 j)) (fun k => p (left s k))
    (fun k j => (hp (left s k)).symm.le.trans ((pay5_least (left s k)).1 j)) (fun k => hn (left s k)) k (by rw [Fintype.card_fin]; omega)
  have h2 : Cert.Ranks.Rank (low E W n) k (left s k (ix2 0 (p (left s k)))) :=
    h1.of_padded (t := low E W n) ⟨fun j => ⟨j.val, by omega⟩, fun i j h => Fin.ext (Fin.mk.inj h)⟩ (fun j => (hs _).trans (padded_inside E W n j _))
      (fun i hi => (hs i).trans (padded_outside E W n i fun h => hi ⟨i.val, h⟩ rfl)) (by rw [Fintype.card_fin]; omega)
  obtain ⟨e, he, hb⟩ := Cert.Reals.floor_pos
  let g : EReal → EReal := fun y => Ideal.sqrt (max (k1_pay4 (F := Ideal) (k1_pay1 x) (ix2 0 0) + y) (Ideal.ofBits .f32 0x2B8CBCCC#32))
  have hg : Monotone g := fun y z h => Cert.Reals.sqrt_mono (le_max_of_le_right (by rw [hb]; exact_mod_cast he.le)) (max_le_max_right _ (add_le_add_right h _))
  have h3 := h2.map hg
  have e1 : (fun j => g (low E W n j)) = dist E W n := funext fun j => by
    show Ideal.sqrt (max (_ + low E W n j) _) = _
    rw [norm_apply hx, low_dist E W n j (hw j)]
    rfl
  rw [e1, ← hp (left s k)] at h3
  rw [root_apply]
  exact h3

end Cert.KernelIdeal.Val

end
-- ==== Proof.Val.Score.lean ====
/-
  The reference's score: the nine nearest distances of the patch of the greatest score, weighted.
-/
module

public import proofs.«01_k».proof.Proof.Val.Chosen
public import proofs.«01_k».proof.Proof.Val.Top

@[expose] public section

set_option maxRecDepth 16384

noncomputable section

namespace Cert.ReferenceIdeal.Val

open Cert.ReferenceIdeal Cert.ReferenceIdeal.Gen Cert.ReferenceIdeal.Read
open Cert.KernelIdeal.Val (dist weighted)
open Cert.Ranks Cert.Chosen
open Idealize.ShloMosaic

variable (E : Vec Ideal S3136x384 .f32) (W : Vec Ideal S50000x384 .f32)

/-- A row sorted greatest first holds at place `k` the value whose negation has rank `k` among the row's negations. -/
theorem topK_rank (x : Vec Ideal S3136x50000 .f32) (h : S3136x50000.Slices (fun _ => 0) S3136x9) (n : Fin 3136) (k : Fin 9) :
    Rank (fun j => -x (ix2 n j)) k.val (-(Host.topK S3136x9 1 (FloatOps.cmpfTotal (F := Ideal) (φ := .f32) .gt) x h).1 (ix2 n k)) := by
  let R : Fin 50000 → Fin 50000 → Bool := fun k k' => FloatOps.cmpfTotal (F := Ideal) (φ := .f32) .gt (x (ix2 n k)) (x (ix2 n k')) == 1#1
  have hR : ∀ k k', R k k' = true ↔ x (ix2 n k') < x (ix2 n k) := fun k k' => gt_iff _ _
  have hR' : ∀ k k', R k k' = false ↔ x (ix2 n k) ≤ x (ix2 n k') := fun k k' => by
    rw [← not_lt, ← hR, Bool.not_eq_true]
  have e : (Host.topK S3136x9 1 (FloatOps.cmpfTotal (F := Ideal) (φ := .f32) .gt) x h).1 (ix2 n k) = x (ix2 n (sortedFrom R (k.castLE (by decide)))) := by
    have along : ∀ (k : Fin 50000) (q : Fin 50000), (ix2 n q : S3136x50000.Idx).along 1 k = ix2 n k := fun k q => funext fun a => by
      match a with
      | ⟨0, _⟩ => rfl
      | ⟨1, _⟩ => rfl
    pointwise [Host.topK, Host.sort2]
    simp only [along, R]
    rfl
  rw [e]
  refine rank_of_sorted (fun j => -x (ix2 n j)) (sortedFrom R) (sortedFrom_surjective R) (fun a b hab => EReal.neg_le_neg_iff.2 ?_) (k.castLE (by decide))
  refine (hR' _ _).1 (sortedFrom_noInversion R R (fun a b hab => ?_) (fun a b hab => hab) (fun a b c hab hbc => ?_) a b hab)
  · exact (hR' _ _).2 ((hR _ _).1 hab).le
  · exact (hR' _ _).2 (((hR' _ _).1 hab).trans ((hR' _ _).1 hbc))

/-- The reference's nine values of a patch are its distances of rank zero to eight. -/
theorem nine_rank (n : Fin 3136) (k : Fin 9) : Rank (dist E W n) k.val (val_main_v18 (F := Ideal) E W (ix2 n k)) := by
  have neg : (fun j => -val_main_v17 (F := Ideal) E W (ix2 n j)) = dist E W n := funext fun j => by
    rw [← distances_apply]
    exact neg_neg _
  have h := topK_rank (val_main_v17 (F := Ideal) E W) sliceFits_S3136x50000_S3136x9 n k
  rw [neg] at h
  exact h

/-- A larger rank has a larger value. -/
theorem rank_le {f : Fin 50000 → EReal} {k l : ℕ} {a b : EReal} (ha : Rank f k a) (hb : Rank f l b) (h : k ≤ l) : a ≤ b := by
  by_contra hab
  have : upTo f b ≤ below f a := Finset.card_le_card fun j hj => by
    rw [Finset.mem_filter] at hj ⊢
    exact ⟨hj.1, hj.2.trans_lt (not_le.1 hab)⟩
  have := ha.1
  have := hb.2
  omega

/-- The place of the first value sorted greatest first. -/
theorem topK_place (x : Vec Ideal S3136 .f32) (h : S3136.Slices (fun _ => 0) S1) (i : Fin 1) (p : Fin 3136) (hp : First (fun n => x (ix1 n)) p) :
    (Host.topK S1 0 (FloatOps.cmpfTotal (F := Ideal) (φ := .f32) .gt) x h).2 (ix1 i) = BitVec.ofNat 32 p.val := by
  let R : Fin 3136 → Fin 3136 → Bool := fun k k' => FloatOps.cmpfTotal (F := Ideal) (φ := .f32) .gt (x (ix1 k)) (x (ix1 k')) == 1#1
  have hR : ∀ k k', R k k' = true ↔ x (ix1 k') < x (ix1 k) := fun k k' => gt_iff _ _
  rw [First.unique hp (sortedFrom_first (fun n => x (ix1 n)) R hR)]
  have along : ∀ k q : Fin 3136, (ix1 q : S3136.Idx).along 0 k = ix1 k := fun k q => funext fun a => by
    match a with
    | ⟨0, _⟩ => rfl
  pointwise [Host.topK, Host.sort2]
  simp only [along, R]
  rfl

/-- The reference's place of the greatest score. -/
theorem place (p : Fin 3136) (hp : First (fun n => val_main_v437 (F := Ideal) E W (ix1 n)) p) (j : S_.Idx) :
    val_main_v438 (F := Ideal) E W j = BitVec.ofNat 32 p.val := by
  have h := fun i => topK_place (val_main_v437 (F := Ideal) E W) sliceFits_S3136_S1 i p hp
  unfold val_main_v438 val_main_indices_9
  generalize (Host.topK S1 0 _ _ _).2 = y at h ⊢
  pointwise
  exact h _

/-- The row and the column of the cut. -/
theorem starts (p : Fin 3136) (hp : First (fun n => val_main_v437 (F := Ideal) E W (ix1 n)) p) (j : S_.Idx) :
    val_main_v441 (F := Ideal) E W j = BitVec.ofNat 32 p.val ∧ val_main_v444 (F := Ideal) j = 0#32 := by
  refine ⟨?_, ?_⟩
  · have h := start_at p (val_main_v438 (F := Ideal) E W) (place E W p hp) j
    unfold val_main_v441 val_main_v439 val_main_v440 val_main_c_10 val_main_c_11
    exact h
  · rw [val_main_v444_apply, val_main_v442_apply, val_main_c_12_apply, val_main_c_13_apply, val_main_c_16_apply]
    rfl

/-- One row of the nine values cut out and read as a list. -/
theorem cut_apply (x : Vec Ideal S3136x9 .f32) (r q : IVec S_ 32) (p : Fin 3136) (hr : r (Shape.Idx.first h_S_) = BitVec.ofNat 32 p.val)
    (hq : q (Shape.Idx.first h_S_) = 0#32) (k : Fin 9) :
    shapeCast S9 (Host.dynamicSlice S1x9 x (fun k => ((![r, q] : Fin 2 → IVec S_ 32) k (Shape.Idx.first h_S_)).toInt) sliceFits_S3136x9_S1x9) shapeCasts_S1x9_S9 (ix1 k)
      = x (ix2 p k) := by
  have h := row_cut x (fun k => ((![r, q] : Fin 2 → IVec S_ 32) k (Shape.Idx.first h_S_)).toInt) sliceFits_S3136x9_S1x9 p
    ((congrArg BitVec.toInt hr).trans (toInt_place p)) ((congrArg BitVec.toInt hq).trans rfl)
  generalize (Host.dynamicSlice S1x9 x _ sliceFits_S3136x9_S1x9 : Vec Ideal S1x9 .f32) = y at h ⊢
  rw [← h k]
  pointwise

/-- The nine values of the patch of the greatest score, cut out. -/
theorem nine_cut (p : Fin 3136) (hp : First (fun n => val_main_v437 (F := Ideal) E W (ix1 n)) p) (k : Fin 9) :
    val_main_v446 (F := Ideal) E W (ix1 k) = val_main_v18 (F := Ideal) E W (ix2 p k) := by
  unfold val_main_v446 val_main_v445
  exact cut_apply _ _ _ p (starts E W p hp _).1 (starts E W p hp _).2 k

/-- A running maximum ends at a bound that is attained. -/
theorem running_max {α : Type} (f : α → EReal) (v : EReal) : ∀ (l : List α) (b : EReal), b ≤ v → (∀ n ∈ l, f n ≤ v) → (b = v ∨ ∃ n ∈ l, f n = v) →
    l.foldl (fun r n => max r (f n)) b = v
  | [], b, _, _, h => h.resolve_right fun ⟨_, hn, _⟩ => absurd hn List.not_mem_nil
  | n :: l, b, hb, hl, h => by
    refine running_max f v l _ (max_le hb (hl n List.mem_cons_self)) (fun a ha => hl a (List.mem_cons_of_mem _ ha)) ?_
    rcases h with h | ⟨a, ha, e⟩
    · exact .inl (le_antisymm (max_le hb (hl n List.mem_cons_self)) (h.symm.le.trans (le_max_left _ _)))
    · rcases List.mem_cons.1 ha with rfl | ha
      · exact .inl (le_antisymm (max_le hb (hl a List.mem_cons_self)) (e.symm.le.trans (le_max_right _ _)))
      · exact .inr ⟨a, ha, e⟩

/-- The maximum of all elements of an array is its greatest element. -/
theorem max_all {s : Shape} {axes : List (Fin s.rank)} (x : FVec Ideal s .f32) (h : s.ReducesTo axes S_) (hu : 0 < S_.numel) (j : S_.Idx) (p : s.Idx)
    (hp : ∀ i, x i ≤ x p) : Host.reduce FloatOps.maximumf x (constant (F := Ideal) S_ .f32 0xFF800000#32) h hu j = x p := by
  unfold Host.reduce
  rw [List.filter_eq_self.2 fun n _ => decide_eq_true (funext fun a => a.elim0)]
  have e1 : constant (F := Ideal) S_ .f32 0xFF800000#32 (Shape.Idx.first hu) = (⊥ : EReal) := by
    show Ideal.ofBits .f32 0xFF800000#32 = ⊥
    simp [Ideal.ofBits, Ideal.ieee]
  rw [e1]
  exact running_max (fun n => x (s.rowMajor.symm n)) (x p) _ ⊥ bot_le (fun n _ => hp _)
    (.inr ⟨s.rowMajor p, List.mem_finRange _, by rw [Equiv.symm_apply_apply]⟩)

/-- The exponential of a larger number is larger. -/
theorem exp_le {a b : EReal} (h : a ≤ b) : Ideal.exp a ≤ Ideal.exp b := by
  induction a with
  | bot =>
    induction b with
    | bot => exact le_rfl
    | top => exact le_top
    | coe b => exact EReal.coe_nonneg.2 (Real.exp_nonneg b)
  | top => rw [top_le_iff.1 h]
  | coe a =>
    induction b with
    | bot => exact absurd h (not_le.2 (EReal.bot_lt_coe a))
    | top => exact le_top
    | coe b => exact EReal.coe_le_coe_iff.2 (Real.exp_le_exp.2 (EReal.coe_le_coe_iff.1 h))

/-- The exponential of the ninth value is the greatest of the nine. -/
theorem greatest_exp (p : Fin 3136) (hp : First (fun n => val_main_v437 (F := Ideal) E W (ix1 n)) p) (j : S_.Idx) :
    val_main_v448 (F := Ideal) E W j = Ideal.exp (val_main_v18 (F := Ideal) E W (ix2 p 8)) := by
  have e : ∀ k, val_main_v447 (F := Ideal) E W (ix1 k) = Ideal.exp (val_main_v18 (F := Ideal) E W (ix2 p k)) := fun k => by
    rw [val_main_v447_apply, nine_cut E W p hp k]
    rfl
  unfold val_main_v448 val_main_cst_17
  refine (max_all _ _ _ _ (ix1 8) fun i => ?_).trans (e 8)
  obtain ⟨k, rfl⟩ : ∃ k : Fin 9, i = ix1 k := ⟨i 0, funext fun a => by
    match a with
    | ⟨0, _⟩ => rfl⟩
  rw [e, e]
  exact exp_le (rank_le (nine_rank E W p k) (nine_rank E W p 8) (Nat.le_of_lt_succ k.isLt))

/-- The sum of the nine exponentials. -/
theorem sum_exp (p : Fin 3136) (hp : First (fun n => val_main_v437 (F := Ideal) E W (ix1 n)) p) (j : S_.Idx) :
    val_main_v450 (F := Ideal) E W j = ∑ k : Fin 9, Ideal.exp (val_main_v18 (F := Ideal) E W (ix2 p k)) := by
  have e : ∀ k, val_main_v449 (F := Ideal) E W (ix1 k) = Ideal.exp (val_main_v18 (F := Ideal) E W (ix2 p k)) := fun k => by
    rw [val_main_v449_apply, nine_cut E W p hp k]
    rfl
  unfold val_main_v450 val_main_cst_18
  generalize val_main_v449 (F := Ideal) E W = y at e ⊢
  pointwise
  exact Finset.sum_congr rfl fun k _ => e k

/-- The greatest score is the score of the first patch that has it. -/
theorem greatest_score (p : Fin 3136) (hp : First (fun n => val_main_v437 (F := Ideal) E W (ix1 n)) p) (j : S_.Idx) :
    val_main_v455 (F := Ideal) E W j = val_main_v18 (F := Ideal) E W (ix2 p 0) := by
  have e : ∀ n, val_main_v437 (F := Ideal) E W (ix1 n) = val_main_v18 (F := Ideal) E W (ix2 n 0) := fun n => by
    pointwise [val_main_v437, val_main_v436]
  have e' : ∀ n, val_main_v454 (F := Ideal) E W (ix1 n) = val_main_v18 (F := Ideal) E W (ix2 n 0) := fun n => by
    pointwise [val_main_v454, val_main_v453]
  unfold val_main_v455 val_main_cst_20
  refine (max_all _ _ _ _ (ix1 p) fun i => ?_).trans (e' p)
  obtain ⟨k, rfl⟩ : ∃ k : Fin 3136, i = ix1 k := ⟨i 0, funext fun a => by
    match a with
    | ⟨0, _⟩ => rfl⟩
  rw [e', e', ← e, ← e]
  exact (hp k).1

/-- The reference's score is the weighted greatest score of the nine values of the first patch that has it. -/
theorem score_weighted (p : Fin 3136) (hp : First (fun n => val_main_v437 (F := Ideal) E W (ix1 n)) p) (j : S_.Idx) :
    val_main_v456 (F := Ideal) E W j = weighted fun k => val_main_v18 (F := Ideal) E W (ix2 p k) := by
  rw [val_main_v456_apply, val_main_v452_apply, val_main_v451_apply, greatest_exp E W p hp, sum_exp E W p hp, greatest_score E W p hp, val_main_cst_19_apply]
  have one : Ideal.ofBits .f32 0x3F800000#32 = 1 := by simp [Ideal.ofBits, Ideal.ieee, -EReal.coe_mul]; norm_num
  show (Ideal.ofBits .f32 0x3F800000#32 - _) * _ = _
  rw [one]
  rfl

end Cert.ReferenceIdeal.Val

end
-- ==== Proof.Val.Found.lean ====
/-
  What the second call leaves: the weighted greatest score, where the memory bank's rows have real squared norms.
-/
module

public import proofs.«01_k».proof.Proof.Val.Operand
public import proofs.«01_k».proof.Proof.Val.Score
public import Idealize.ShloMosaic.Lib.Pipeline.ArrRel

@[expose] public section

set_option maxRecDepth 16384

noncomputable section

namespace Cert.KernelIdeal.Val

open Cert.KernelIdeal Cert.KernelIdeal.Gen Cert.KernelIdeal.Hand
open Cert.ReferenceIdeal.Read (val_main_v18 val_main_v20 val_main_v437 val_main_v456)
open Cert.ReferenceIdeal.Val (score_nearest score_weighted nine_rank)
open Idealize.ShloMosaic Idealize.ShloMosaic.TcCoe Idealize.ShloMosaic.StableHlo
open Idealize.SL.Sem

variable (m : (ℓ : Loc nD τ sig) → Buf (Elt Ideal) ℓ) (c : Dev nD)

/-- The last point of the second call's grid. -/
def last1 : Fin cfg1.N := ⟨6, by rw [show cfg1.N = 7 from N_1]; decide⟩

/-- What the second call leaves in its output array is a score. -/
theorem found_score (γ : Found (F := Ideal) m c) : ∃ o, Score (V4 m (outsA m)) c o ∧ (show Vec Ideal S1x1 .f32 from γ.1) (ix2 0 0) = o (ix2 0 0) := by
  obtain ⟨X, hX, e⟩ := Pipeline.RDat.ArrAt.emb_eq_of_wholeAt γ.2 (t₀ := last1) (by decide +kernel)
  have h := Pipeline.Dat.toRRel_leaves (dat1 (V4 m (outsA m)) c) rfl hX
  refine ⟨X, h rfl, ?_⟩
  exact e (ix2 0 0)

/-- The score left is the reference's, where every row of the memory bank has a real squared norm. -/
theorem found_value (γ : Found (F := Ideal) m c) (hw : ∀ j, ∃ r : ℝ, normW (arrW (V0 m) c) j = (r : EReal)) (j : Cert.ReferenceIdeal.S_.Idx) :
    (show Vec Ideal S1x1 .f32 from γ.1) (ix2 0 0) = val_main_v456 (F := Ideal) (arrE (V0 m) c) (arrW (V0 m) c) j := by
  obtain ⟨o, ⟨s, hs, rfl⟩, e⟩ := found_score m c γ
  obtain ⟨p, hp, hx⟩ := operand_patch m c
  have hW : arrW (V4 m (outsA m)) c = arrW (V0 m) c := by
    show V4 m (outsA m) c main_arg1 = V0 m c main_arg1
    rw [V4_of m (outsA m) c main_arg1 (by decide), V3_of m (outsA m) c main_arg1 (by decide), V2_of m (outsA m) c main_arg1 (by decide), V1_off m c main_arg1 (by decide)]
  have row : ∀ j : Fin 57344, s (ix2 0 j) = padded (arrE (V0 m) c) (arrW (V0 m) c) p j := fun j =>
    (reach_row (V4 m (outsA m)) c (arrE (V0 m) c) p hx 7 s hs j j.isLt).trans (by rw [hW])
  have first : Cert.Chosen.First (fun n => val_main_v437 (F := Ideal) (arrE (V0 m) c) (arrW (V0 m) c) (ix1 n)) p := by
    have : (fun n => val_main_v437 (F := Ideal) (arrE (V0 m) c) (arrW (V0 m) c) (ix1 n)) = fun n => dist0 (V0 m) c (ix2 0 n) := funext fun n =>
      (score_nearest (arrE (V0 m) c) (arrW (V0 m) c) n).unique _ _ _ (dist0_nearest (V0 m) c n)
    rw [this]
    exact hp
  rw [e, score_apply, score_weighted _ _ p first]
  exact congrArg weighted (funext fun k => (root_rank _ _ p _ s hx row hw k.val k.isLt).unique (nine_rank _ _ p k))

/-- The kernel's second result is what the second call left. -/
theorem result_found (γ : Found (F := Ideal) m c) (j : S_.Idx) :
    (show Vec Ideal S_ .f32 from V14 m (outsB m c γ) c main_v44) j = (show Vec Ideal S1x1 .f32 from γ.1) (ix2 0 0) := by
  have e9 : V13 m (outsB m c γ) c main_v9 = γ.1 := by
    rw [V13_of m (outsB m c γ) c main_v9 (by decide), V12_of m (outsB m c γ) c main_v9 (by decide), V11_of m (outsB m c γ) c main_v9 (by decide),
      V10_of m (outsB m c γ) c main_v9 (by decide), V9_of m (outsB m c γ) c main_v9 (by decide), V8_of m (outsB m c γ) c main_v9 (by decide),
      V7_of m (outsB m c γ) c main_v9 (by decide), V6_of m (outsB m c γ) c main_v9 (by decide), V5_self]
  have e : (show Vec Ideal S_ .f32 from V14 m (outsB m c γ) c main_v44) j = (show Vec Ideal S1x1 .f32 from V13 m (outsB m c γ) c main_v9) (ix2 0 0) := by
    unfold V14
    generalize V13 m (outsB m c γ) c = V'
    after_reads_simp
    pointwise
  exact e.trans (congrFun e9 _)

/-- A memory bank of real numbers has real squared norms. -/
theorem norm_real (W : Vec Ideal S50000x384 .f32) (h : ∀ j k, ∃ r : ℝ, W (ix2 j k) = (r : EReal)) (j : Fin 50000) : ∃ r : ℝ, normW W j = (r : EReal) := by
  refine Finset.sum_induction _ (fun x : EReal => ∃ r : ℝ, x = (r : EReal)) ?_ ⟨0, rfl⟩ fun k _ => ?_
  · rintro _ _ ⟨a, rfl⟩ ⟨b, rfl⟩
    exact ⟨a + b, (EReal.coe_add a b).symm⟩
  · obtain ⟨r, hr⟩ := h j k
    exact ⟨r * r, by rw [hr, EReal.coe_mul]⟩

end Cert.KernelIdeal.Val

end
-- ==== Proof.Val.Value.lean ====
/-
  The value claim: the kernel's anomaly map is the reference's, and where the memory bank is finite so is its score.
-/
module

public import proofs.«01_k».proof.Defs
public import proofs.«01_k».proof.Proof.Val.Blur
public import proofs.«01_k».proof.Proof.Val.Found
public import proofs.«01_k».proof.Proof.Gen.ReferenceIdeal
public import proofs.«01_k».proof.Proof.Gen.KernelIdeal
public import proofs.«01_k».proof.Proof.Gen.On_score_of_a_finite_bank
public import proofs.«01_k».proof.Proof.Gen.ReferenceIdeal.Run
public import Idealize.ShloMosaic.Lib.Claim
public import Idealize.ShloMosaic.Lib.ReduceAll

@[expose] public section

set_option maxRecDepth 16384

noncomputable section

namespace Cert.KernelIdeal.Val

open Cert.KernelIdeal Cert.KernelIdeal.Gen Cert.KernelIdeal.Hand
open Cert.ReferenceIdeal.Val (mirror mirror_lt weight rows_apply columns_apply mirrored_apply enlarged_apply score_nearest)
open Cert.ReferenceIdeal.Read (val_main_v20 val_main_v37 val_main_v435)
open Idealize.ShloMosaic Idealize.ShloMosaic.TcCoe Idealize.ShloMosaic.StableHlo Idealize.SL.Sem

section Passes

variable (E : Vec Ideal Cert.ReferenceIdeal.S3136x384 .f32) (W : Vec Ideal Cert.ReferenceIdeal.S50000x384 .f32) (P : Vec Ideal S4x28x28 .f32)
  (hP : ∀ (b : Fin 4) (y x : Fin 28), P (ix3 b y x) = val_main_v20 (F := Ideal) E W (ix1 ⟨b.val * 784 + y.val * 28 + x.val, by omega⟩))

include hP

/-- The two products with the spread matrix, of the map of the distances, are the reference's two passes, at an index. -/
theorem map_of_distances_apply (b : Fin 4) (i j : Fin 224) :
    blurMap spread P (ix4 b 0 i j) = val_main_v435 (F := Ideal) E W (ix4 b 0 i j) := by
  have h1 : blurMap spread P (ix4 b 0 i j) = ∑ x : Fin 28, (∑ y : Fin 28, (∑ k : Fin 33, if patch (pos k i) = y then weight k else 0)
      * P (ix3 b y x)) * (∑ k : Fin 33, if patch (pos k j) = x then weight k else 0) :=
    Finset.sum_congr rfl fun x _ => congrArg₂ (· * ·)
      (Finset.sum_congr rfl fun y _ => congrArg (· * P (ix3 b y x)) (spread_apply i y)) (spread_apply j x)
  have h2 := Cert.Reals.blur_sum weight weight_nonneg (fun y x => P (ix3 b y x))
    (fun y x => (hP b y x).symm ▸ (score_nearest E W _).nonneg) (fun k => patch (pos k i)) (fun k => patch (pos k j))
  have h3 : ∀ k k' : Fin 33, P (ix3 b (patch (pos k i)) (patch (pos k' j)))
      = val_main_v37 (F := Ideal) E W (ix4 b 0 (pos k i) (pos k' j)) := fun k k' =>
    (hP b _ _).trans ((mirrored_apply E W b _ _).trans (enlarged_apply E W b _ _)).symm
  rw [h1, h2, columns_apply]
  refine Finset.sum_congr rfl fun k' _ => ?_
  rw [rows_apply]
  refine congrArg (weight k' * ·) (Finset.sum_congr rfl fun k _ => ?_)
  rw [h3]
  rfl

/-- The two products with the spread matrix, of the map of the distances, are the reference's two passes. -/
theorem map_of_distances : blurMap spread P = val_main_v435 (F := Ideal) E W := by
  funext n
  have e : n = (ix4 (n 0) 0 (n 2) (n 3) : S4x1x224x224.Idx) := by
    funext a
    match a with
    | 0 => rfl
    | 1 => exact Subsingleton.elim (α := Fin 1) _ _
    | 2 => rfl
    | 3 => rfl
  rw [e]
  exact map_of_distances_apply E W P hP (n 0) (n 2) (n 3)

end Passes

section Map

variable (m : (ℓ : Loc nD τ sig) → Buf (Elt Ideal) ℓ) (c : Dev nD)

/-- The reference's distance of patch `n` to its nearest row, of the arguments in the kernel's memory. -/
abbrev score (n : Fin 3136) : EReal :=
  val_main_v20 (F := Ideal) (arrE (V0 m) c) (arrW (V0 m) c) (ix1 n)

/-- The first call's output, as the third call finds it, reshaped to four images. -/
theorem map_found (b : Fin 4) (y x : Fin 28) :
    arrP (V12 m (outsA m)) c (ix3 b y x) = score m c ⟨b.val * 784 + y.val * 28 + x.val, by omega⟩ := by
  have e1 : (show Vec Ideal S3136 .f32 from V5 m (outsA m) c main_v1) (ix1 ⟨b.val * 784 + y.val * 28 + x.val, by omega⟩)
      = (show Vec Ideal S1x3136 .f32 from V1 m (outsA m) c main_v0) (ix2 0 ⟨b.val * 784 + y.val * 28 + x.val, by omega⟩) := by
    rw [V5_of m (outsA m) c main_v1 (by decide), V4_of m (outsA m) c main_v1 (by decide), V3_of m (outsA m) c main_v1 (by decide)]
    unfold V2
    generalize V1 m (outsA m) c = V'
    after_reads_simp
    pointwise
  refine (v10_apply (V5 m (outsA m) c) b y x).trans (e1.trans ?_)
  rw [V1_self]
  exact (congrFun (arr0_eq (V0 m) c) _).trans ((dist0_nearest (V0 m) c _).unique _ _ _ (score_nearest _ _ _))

/-- The matrix the third call finds. -/
theorem matrix_found : arrU (V12 m (outsA m)) c = spread := v42_eq (V5 m (outsA m) c)

/-- The kernel's anomaly map is the reference's. -/
theorem blurred_eq : blurred m c = val_main_v435 (F := Ideal) (arrE (V0 m) c) (arrW (V0 m) c) := by
  have e : blurred m c = blurMap (arrU (V12 m (outsA m)) c) (arrP (V12 m (outsA m)) c) := arr2_eq (V12 m (outsA m)) c
  rw [e, matrix_found]
  exact map_of_distances _ _ _ (map_found m c)

end Map

end Cert.KernelIdeal.Val

namespace Cert.Hand

open Idealize.ShloMosaic Idealize.ShloMosaic.TcCoe Idealize.ShloMosaic.StableHlo Idealize.SL.Sem
open Cert.KernelIdeal.Hand Cert.KernelIdeal.Gen Cert.KernelIdeal.Val
open Cert.ReferenceIdeal.Read (val_main_v435 val_main_v456)

/-- Where the mask selects the score, every element of the memory bank is a real number. -/
theorem bank_real (E : FVec Ideal Cert.On_score_of_a_finite_bank.S3136x384 .f32) (W : FVec Ideal Cert.On_score_of_a_finite_bank.S50000x384 .f32) (j : (⟨0, ![]⟩ : Shape).Idx)
    (h : (letI := Cert.On_score_of_a_finite_bank.Gen.facts; (Cert.On_score_of_a_finite_bank.fn (F := Ideal) E W).2) j = 1#1) (n : Fin 50000) (k : Fin 384) :
    ∃ r : ℝ, W (ix2 n k) = (r : EReal) := by
  dsimp only [Cert.On_score_of_a_finite_bank.fn] at h
  have h1 := Host.reduce_andi_all _ _ _ _ j h (ix2 n k)
  have h2 : Ideal.cmp .olt (max (W (ix2 n k)) (-W (ix2 n k))) (Ideal.ofBits .f32 0x7F800000#32) = 1#1 := h1
  have e : Ideal.ofBits .f32 0x7F800000#32 = ⊤ := by simp [Ideal.ofBits, Ideal.ieee]
  have h3 : max (W (ix2 n k)) (-W (ix2 n k)) < ⊤ := by
    rw [e] at h2
    by_contra hn
    exact absurd h2 (by simp only [Ideal.cmp, hn]; decide)
  generalize (W (ix2 n k) : EReal) = x at h3 ⊢
  change EReal at x
  induction x using EReal.rec with
  | bot => exact absurd h3 (by simp)
  | top => exact absurd h3 (by simp)
  | coe r => exact ⟨r, rfl⟩

/-- On the ideal numbers both programs leave the same anomaly map, whatever the arguments, and the same score, whenever the memory bank is finite. -/
theorem value : Cert.algebraic_KernelIdeal_ReferenceIdeal_on_score_of_a_finite_bank (hKernelIdeal := Cert.KernelIdeal.Gen.facts)
    (hReferenceIdeal := Cert.ReferenceIdeal.Gen.facts) (hOn_score_of_a_finite_bank := Cert.On_score_of_a_finite_bank.Gen.facts) := by
  intro m g m' g' _ hargs
  refine ⟨fun c => blurred m c, fun c => val_main_v456 (F := Ideal) (arrE (V0 m) c) (arrW (V0 m) c), ?_, ?_⟩
  · refine (θ_run _ _ _).mono (fun r h c => ?_) (Cert.KernelIdeal.Hand.run (F := Ideal) m g)
    obtain ⟨⟨γ, h43, h44⟩, h0, h1⟩ := h.1 c
    refine ⟨fun i _ => ?_, fun i hi => ?_, h0, h1⟩
    · rw [h43, V14_of m (outsB m c γ) c Cert.KernelIdeal.main_v43 (by decide), V13_self]
    · refine (congrFun h44 i).trans ((result_found m c γ i).trans (found_value m c γ ?_ i))
      exact norm_real _ (bank_real _ _ i hi)
  · refine (θ_run _ _ _).mono (fun r h c => ?_) (Cert.ReferenceIdeal.Value.run (F := Ideal) m' g')
    obtain ⟨h435, h456, h0, h1⟩ := h c
    refine ⟨fun i _ => ?_, fun i _ => ?_, h0, h1⟩
    · have e := h435.trans (Cert.ReferenceIdeal.Read.val_main_v435_eq (launchContents m' c))
      rw [launchContents_devRef, launchContents_devRef] at e
      refine (congrFun e i).trans ?_
      rw [(hargs c).1, (hargs c).2]
      exact (congrFun (blurred_eq m c) i).symm
    · have e := h456.trans (Cert.ReferenceIdeal.Read.val_main_v456_eq (launchContents m' c))
      rw [launchContents_devRef, launchContents_devRef] at e
      refine (congrFun e i).trans ?_
      rw [(hargs c).1, (hargs c).2]

end Cert.Hand

end
-- ==== Proof.lean ====
/-
  The certificate of the PatchCore kernel: its claims, put together from the modules under `Proof/`.
-/
module

public import proofs.«01_k».proof.Defs
public import proofs.«01_k».proof.Proof.Frames
public import proofs.«01_k».proof.Proof.Gen.ReferenceIdeal
public import proofs.«01_k».proof.Proof.Val.Value
public import proofs.«01_k».proof.Proof.Gen.On_score_of_a_finite_bank
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference terminates and leaves its arguments; it declares no semaphore. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

/-- Every claim of the certificate. -/
theorem claim : Cert.Claim := ⟨Cert.Kernel.Gen.facts, Cert.KernelIdeal.Gen.facts, Cert.ReferenceIdeal.Gen.facts,
  Cert.On_score_of_a_finite_bank.Gen.facts, Cert.Hand.frame_bits, Cert.Hand.frame_ideal, frame_reference, trivial, Cert.Hand.value⟩

end Cert.Proof

end
